-- ==== Defs.lean ====
def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.2 = (fun _ => 1#1)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_v62) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernelIdeal : Cert.KernelIdeal.Facts) (hReferenceIdeal : Cert.ReferenceIdeal.Facts) (hPre_finite : Cert.Pre_finite.Facts),
    quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ algebraic_KernelIdeal_ReferenceIdeal_pre_finite (hKernelIdeal := hKernelIdeal) (hReferenceIdeal := hReferenceIdeal) (hPre_finite := hPre_finite)
-- ==== Pre_finite.lean ====
abbrev S32768x4096 : Shape := ⟨2, ![32768, 4096]⟩
abbrev S8x4096 : Shape := ⟨2, ![8, 4096]⟩
abbrev S8 : Shape := ⟨1, ![8]⟩
abbrev S8x8x4096 : Shape := ⟨3, ![8, 8, 4096]⟩
abbrev S8x8 : Shape := ⟨2, ![8, 8]⟩
abbrev S_ : Shape := ⟨0, ![]⟩

class Facts : Prop where
  bcast_S_S32768x4096 : S_.BroadcastsInDim S32768x4096 (![] : Fin 0 → Fin S32768x4096.rank)
  bcast_S_S8x4096 : S_.BroadcastsInDim S8x4096 (![] : Fin 0 → Fin S8x4096.rank)
  bcast_S_S8 : S_.BroadcastsInDim S8 (![] : Fin 0 → Fin S8.rank)
  bcast_S_S8x8x4096 : S_.BroadcastsInDim S8x8x4096 (![] : Fin 0 → Fin S8x8x4096.rank)
  bcast_S_S8x8 : S_.BroadcastsInDim S8x8 (![] : Fin 0 → Fin S8x8.rank)

variable [Facts]

def fn {F : FTy → Type} [FloatOps F] (main_arg0 : FVec F S32768x4096 .f32) (main_arg1 : FVec F S8x4096 .f32) (main_arg2 : FVec F S8 .f32) (main_arg3 : FVec F S8x8x4096 .f32) (main_arg4 : FVec F S8x8 .f32) : IVec S32768x4096 1 × IVec S8x4096 1 × IVec S8 1 × IVec S8x8x4096 1 × IVec S8x8 1 :=
  let main_v0 : FVec F S32768x4096 .f32 := Host.absf main_arg0
  let main_cst : FVec F S_ .f32 := constant S_ .f32 0x7F800000#32
  let main_v1 : FVec F S32768x4096 .f32 := broadcastInDim S32768x4096 ![] bcast_S_S32768x4096 main_cst
  let main_v2 : IVec S32768x4096 1 := cmpf .olt main_v0 main_v1
  let main_v3 : FVec F S8x4096 .f32 := Host.absf main_arg1
  let main_cst_0 : FVec F S_ .f32 := constant S_ .f32 0x7F800000#32
  let main_v4 : FVec F S8x4096 .f32 := broadcastInDim S8x4096 ![] bcast_S_S8x4096 main_cst_0
  let main_v5 : IVec S8x4096 1 := cmpf .olt main_v3 main_v4
  let main_v6 : FVec F S8 .f32 := Host.absf main_arg2
  let main_cst_1 : FVec F S_ .f32 := constant S_ .f32 0x7F800000#32
  let main_v7 : FVec F S8 .f32 := broadcastInDim S8 ![] bcast_S_S8 main_cst_1
  let main_v8 : IVec S8 1 := cmpf .olt main_v6 main_v7
  let main_v9 : FVec F S8x8x4096 .f32 := Host.absf main_arg3
  let main_cst_2 : FVec F S_ .f32 := constant S_ .f32 0x7F800000#32
  let main_v10 : FVec F S8x8x4096 .f32 := broadcastInDim S8x8x4096 ![] bcast_S_S8x8x4096 main_cst_2
  let main_v11 : IVec S8x8x4096 1 := cmpf .olt main_v9 main_v10
  let main_v12 : FVec F S8x8 .f32 := Host.absf main_arg4
  let main_cst_3 : FVec F S_ .f32 := constant S_ .f32 0x7F800000#32
  let main_v13 : FVec F S8x8 .f32 := broadcastInDim S8x8 ![] bcast_S_S8x8 main_cst_3
  let main_v14 : IVec S8x8 1 := cmpf .olt main_v12 main_v13
  (main_v2, main_v5, main_v8, main_v11, main_v14)
-- ==== KernelIdeal.lean ====
abbrev S32768x4096 : Shape := ⟨2, ![32768, 4096]⟩
abbrev S8x4096 : Shape := ⟨2, ![8, 4096]⟩
abbrev S8 : Shape := ⟨1, ![8]⟩
abbrev S8x8x4096 : Shape := ⟨3, ![8, 8, 4096]⟩
abbrev S8x8 : Shape := ⟨2, ![8, 8]⟩
abbrev S4096x8 : Shape := ⟨2, ![4096, 8]⟩
abbrev S8x4096x8 : Shape := ⟨3, ![8, 4096, 8]⟩
abbrev S1x8x1 : Shape := ⟨3, ![1, 8, 1]⟩
abbrev S8x8x1 : Shape := ⟨3, ![8, 8, 1]⟩
abbrev S2x32768 : Shape := ⟨2, ![2, 32768]⟩
abbrev S32768x2 : Shape := ⟨2, ![32768, 2]⟩
abbrev S1024x4096 : Shape := ⟨2, ![1024, 4096]⟩
abbrev S2x1024 : Shape := ⟨2, ![2, 1024]⟩
abbrev S4096x16 : Shape := ⟨2, ![4096, 16]⟩
abbrev S16x1 : Shape := ⟨2, ![16, 1]⟩
abbrev S1x4096 : Shape := ⟨2, ![1, 4096]⟩
abbrev S8x1 : Shape := ⟨2, ![8, 1]⟩
abbrev S1 : Shape := ⟨1, ![1]⟩
abbrev S1x1x1 : Shape := ⟨3, ![1, 1, 1]⟩
abbrev S1x4096x8 : Shape := ⟨3, ![1, 4096, 8]⟩
abbrev S16x1024 : Shape := ⟨2, ![16, 1024]⟩
abbrev S8x1024 : Shape := ⟨2, ![8, 1024]⟩
abbrev S1024 : Shape := ⟨1, ![1024]⟩
abbrev S1x1024 : Shape := ⟨2, ![1, 1024]⟩

abbrev nBuf : Space → Nat
  | .hbm => 13
  | .vmem => 12
  | .smem => 0
  | _ => 0

abbrev bufTy : (tb : Table) → Fin (tcTables nBuf tb) → BufTy
  | .hbm, ⟨0, _⟩ => ⟨S32768x4096, .f32⟩
  | .hbm, ⟨1, _⟩ => ⟨S8x4096, .f32⟩
  | .hbm, ⟨2, _⟩ => ⟨S8, .f32⟩
  | .hbm, ⟨3, _⟩ => ⟨S8x8x4096, .f32⟩
  | .hbm, ⟨4, _⟩ => ⟨S8x8, .f32⟩
  | .hbm, ⟨5, _⟩ => ⟨S4096x8, .f32⟩
  | .hbm, ⟨6, _⟩ => ⟨S8x4096x8, .f32⟩
  | .hbm, ⟨7, _⟩ => ⟨S1x8x1, .f32⟩
  | .hbm, ⟨8, _⟩ => ⟨S8x8x1, .f32⟩
  | .hbm, ⟨9, _⟩ => ⟨S2x32768, .i32⟩
  | .hbm, ⟨10, _⟩ => ⟨S2x32768, .f32⟩
  | .hbm, ⟨11, _⟩ => ⟨S32768x2, .i32⟩
  | .hbm, ⟨12, _⟩ => ⟨S32768x2, .f32⟩
  | .local _ .vmem, ⟨0, _⟩ => ⟨S1024x4096, .f32⟩
  | .local _ .vmem, ⟨1, _⟩ => ⟨S1024x4096, .f32⟩
  | .local _ .vmem, ⟨2, _⟩ => ⟨S4096x8, .f32⟩
  | .local _ .vmem, ⟨3, _⟩ => ⟨S8x4096x8, .f32⟩
  | .local _ .vmem, ⟨4, _⟩ => ⟨S1x8x1, .f32⟩
  | .local _ .vmem, ⟨5, _⟩ => ⟨S8x8x1, .f32⟩
  | .local _ .vmem, ⟨6, _⟩ => ⟨S2x1024, .i32⟩
  | .local _ .vmem, ⟨7, _⟩ => ⟨S2x1024, .i32⟩
  | .local _ .vmem, ⟨8, _⟩ => ⟨S2x1024, .f32⟩
  | .local _ .vmem, ⟨9, _⟩ => ⟨S2x1024, .f32⟩
  | .local _ .vmem, ⟨10, _⟩ => ⟨S4096x16, .f32⟩
  | .local _ .vmem, ⟨11, _⟩ => ⟨S16x1, .f32⟩
  | _, _ => ⟨S32768x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4_0 : Ref sig .tc := ⟨.hbm, 9, rfl⟩
abbrev main_call0_v4_1 : Ref sig .tc := ⟨.hbm, 10, rfl⟩
abbrev main_v0_0 : Ref sig .tc := ⟨.hbm, 11, rfl⟩
abbrev main_v0_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![32], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_off1 (v84 : BitVec 32) : Fin 3 → Nat :=
  let v90 : Index := Scalar.indexCast v84
  let c0_41 : Index := 0#32
  let c0_42 : Index := 0#32
  ![v90.toNat, 0, 0]

def k0_off2 (v84 : BitVec 32) : Fin 3 → Nat :=
  let v101 : Index := Scalar.indexCast v84
  let c0_49 : Index := 0#32
  let c0_50 : Index := 0#32
  ![v101.toNat, 0, 0]

def k0_chk1 (i : grid0.Coords) (v84 : BitVec 32) : Prop :=
  (∀ (k0_h1 : k0_cond1 i = 1#1), ∀ a, (k0_off1 v84) a + S1x4096x8.size a ≤ S8x4096x8.size a) ∧
  (∀ (k0_h1 : k0_cond1 i = 1#1), ∀ a, (k0_off2 v84) a + S1x8x1.size a ≤ S8x8x1.size a)
theorem k0_off1_inb : ∀ (i : grid0.Coords) (v84 : BitVec 32) (k0_hw1 : k0_chk1 i v84), ∀ (k0_h1 : k0_cond1 i = 1#1), ∀ a, (k0_off1 v84) a + S1x4096x8.size a ≤ S8x4096x8.size a := fun i v84 k0_hw1 k0_h1 => k0_hw1.1 k0_h1
theorem k0_off2_inb : ∀ (i : grid0.Coords) (v84 : BitVec 32) (k0_hw1 : k0_chk1 i v84), ∀ (k0_h1 : k0_cond1 i = 1#1), ∀ a, (k0_off2 v84) a + S1x8x1.size a ≤ S8x8x1.size a := fun i v84 k0_hw1 k0_h1 => k0_hw1.2 k0_h1

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1024x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x4096x8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x8x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x8x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2x1024 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S32768x4096 : Shape := ⟨2, ![32768, 4096]⟩
abbrev S8x4096 : Shape := ⟨2, ![8, 4096]⟩
abbrev S8 : Shape := ⟨1, ![8]⟩
abbrev S8x8x4096 : Shape := ⟨3, ![8, 8, 4096]⟩
abbrev S8x8 : Shape := ⟨2, ![8, 8]⟩
abbrev S4096x8 : Shape := ⟨2, ![4096, 8]⟩
abbrev S32768x8 : Shape := ⟨2, ![32768, 8]⟩
abbrev S1x8 : Shape := ⟨2, ![1, 8]⟩
abbrev S_ : Shape := ⟨0, ![]⟩
abbrev S32768 : Shape := ⟨1, ![32768]⟩
abbrev S32768x1 : Shape := ⟨2, ![32768, 1]⟩
abbrev S1 : Shape := ⟨1, ![1]⟩
abbrev S1x8x4096 : Shape := ⟨3, ![1, 8, 4096]⟩
abbrev S32768x2 : Shape := ⟨2, ![32768, 2]⟩

abbrev nBuf : Space → Nat
  | .hbm => 98
  | .vmem => 0
  | .smem => 0
  | _ => 0

abbrev bufTy : (tb : Table) → Fin (tcTables nBuf tb) → BufTy
  | .hbm, ⟨0, _⟩ => ⟨S32768x4096, .f32⟩
  | .hbm, ⟨1, _⟩ => ⟨S8x4096, .f32⟩
  | .hbm, ⟨2, _⟩ => ⟨S8, .f32⟩
  | .hbm, ⟨3, _⟩ => ⟨S8x8x4096, .f32⟩
  | .hbm, ⟨4, _⟩ => ⟨S8x8, .f32⟩
  | .hbm, ⟨5, _⟩ => ⟨S4096x8, .f32⟩
  | .hbm, ⟨6, _⟩ => ⟨S32768x8, .f32⟩
  | .hbm, ⟨7, _⟩ => ⟨S1x8, .f32⟩
  | .hbm, ⟨8, _⟩ => ⟨S32768x8, .f32⟩
  | .hbm, ⟨9, _⟩ => ⟨S32768x8, .f32⟩
  | .hbm, ⟨10, _⟩ => ⟨S_, .f32⟩
  | .hbm, ⟨11, _⟩ => ⟨S32768, .f32⟩
  | .hbm, ⟨12, _⟩ => ⟨S_, .f32⟩
  | .hbm, ⟨13, _⟩ => ⟨S32768, .f32⟩
  | .hbm, ⟨14, _⟩ => ⟨S32768, .f32⟩
  | .hbm, ⟨15, _⟩ => ⟨S32768x1, .f32⟩
  | .hbm, ⟨16, _⟩ => ⟨S32768x8, .f32⟩
  | .hbm, ⟨17, _⟩ => ⟨S32768x8, .f32⟩
  | .hbm, ⟨18, _⟩ => ⟨S32768x8, .f32⟩
  | .hbm, ⟨19, _⟩ => ⟨S_, .f32⟩
  | .hbm, ⟨20, _⟩ => ⟨S32768, .f32⟩
  | .hbm, ⟨21, _⟩ => ⟨S32768x1, .f32⟩
  | .hbm, ⟨22, _⟩ => ⟨S32768x8, .f32⟩
  | .hbm, ⟨23, _⟩ => ⟨S32768x8, .f32⟩
  | .hbm, ⟨24, _⟩ => ⟨S32768x1, .f32⟩
  | .hbm, ⟨25, _⟩ => ⟨S32768x1, .i32⟩
  | .hbm, ⟨26, _⟩ => ⟨S32768, .i32⟩
  | .hbm, ⟨27, _⟩ => ⟨S1, .i32⟩
  | .hbm, ⟨28, _⟩ => ⟨S_, .i32⟩
  | .hbm, ⟨29, _⟩ => ⟨S_, .i32⟩
  | .hbm, ⟨30, _⟩ => ⟨S_, .i1⟩
  | .hbm, ⟨31, _⟩ => ⟨S_, .i32⟩
  | .hbm, ⟨32, _⟩ => ⟨S_, .i32⟩
  | .hbm, ⟨33, _⟩ => ⟨S_, .i32⟩
  | .hbm, ⟨34, _⟩ => ⟨S_, .i32⟩
  | .hbm, ⟨35, _⟩ => ⟨S_, .i32⟩
  | .hbm, ⟨36, _⟩ => ⟨S_, .i1⟩
  | .hbm, ⟨37, _⟩ => ⟨S_, .i32⟩
  | .hbm, ⟨38, _⟩ => ⟨S_, .i32⟩
  | .hbm, ⟨39, _⟩ => ⟨S_, .i32⟩
  | .hbm, ⟨40, _⟩ => ⟨S_, .i32⟩
  | .hbm, ⟨41, _⟩ => ⟨S_, .i32⟩
  | .hbm, ⟨42, _⟩ => ⟨S_, .i32⟩
  | .hbm, ⟨43, _⟩ => ⟨S_, .i32⟩
  | .hbm, ⟨44, _⟩ => ⟨S_, .i1⟩
  | .hbm, ⟨45, _⟩ => ⟨S_, .i32⟩
  | .hbm, ⟨46, _⟩ => ⟨S_, .i32⟩
  | .hbm, ⟨47, _⟩ => ⟨S_, .i32⟩
  | .hbm, ⟨48, _⟩ => ⟨S_, .i32⟩
  | .hbm, ⟨49, _⟩ => ⟨S_, .i32⟩
  | .hbm, ⟨50, _⟩ => ⟨S1x8x4096, .f32⟩
  | .hbm, ⟨51, _⟩ => ⟨S8x4096, .f32⟩
  | .hbm, ⟨52, _⟩ => ⟨S1, .i32⟩
  | .hbm, ⟨53, _⟩ => ⟨S_, .i32⟩
  | .hbm, ⟨54, _⟩ => ⟨S_, .i32⟩
  | .hbm, ⟨55, _⟩ => ⟨S_, .i1⟩
  | .hbm, ⟨56, _⟩ => ⟨S_, .i32⟩
  | .hbm, ⟨57, _⟩ => ⟨S_, .i32⟩
  | .hbm, ⟨58, _⟩ => ⟨S_, .i32⟩
  | .hbm, ⟨59, _⟩ => ⟨S_, .i32⟩
  | .hbm, ⟨60, _⟩ => ⟨S_, .i32⟩
  | .hbm, ⟨61, _⟩ => ⟨S_, .i1⟩
  | .hbm, ⟨62, _⟩ => ⟨S_, .i32⟩
  | .hbm, ⟨63, _⟩ => ⟨S_, .i32⟩
  | .hbm, ⟨64, _⟩ => ⟨S_, .i32⟩
  | .hbm, ⟨65, _⟩ => ⟨S_, .i32⟩
  | .hbm, ⟨66, _⟩ => ⟨S_, .i32⟩
  | .hbm, ⟨67, _⟩ => ⟨S1x8, .f32⟩
  | .hbm, ⟨68, _⟩ => ⟨S8, .f32⟩
  | .hbm, ⟨69, _⟩ => ⟨S4096x8, .f32⟩
  | .hbm, ⟨70, _⟩ => ⟨S32768x8, .f32⟩
  | .hbm, ⟨71, _⟩ => ⟨S1x8, .f32⟩
  | .hbm, ⟨72, _⟩ => ⟨S32768x8, .f32⟩
  | .hbm, ⟨73, _⟩ => ⟨S32768x8, .f32⟩
  | .hbm, ⟨74, _⟩ => ⟨S_, .f32⟩
  | .hbm, ⟨75, _⟩ => ⟨S32768, .f32⟩
  | .hbm, ⟨76, _⟩ => ⟨S_, .f32⟩
  | .hbm, ⟨77, _⟩ => ⟨S32768, .f32⟩
  | .hbm, ⟨78, _⟩ => ⟨S32768, .f32⟩
  | .hbm, ⟨79, _⟩ => ⟨S32768x1, .f32⟩
  | .hbm, ⟨80, _⟩ => ⟨S32768x8, .f32⟩
  | .hbm, ⟨81, _⟩ => ⟨S32768x8, .f32⟩
  | .hbm, ⟨82, _⟩ => ⟨S32768x8, .f32⟩
  | .hbm, ⟨83, _⟩ => ⟨S_, .f32⟩
  | .hbm, ⟨84, _⟩ => ⟨S32768, .f32⟩
  | .hbm, ⟨85, _⟩ => ⟨S32768x1, .f32⟩
  | .hbm, ⟨86, _⟩ => ⟨S32768x8, .f32⟩
  | .hbm, ⟨87, _⟩ => ⟨S32768x8, .f32⟩
  | .hbm, ⟨88, _⟩ => ⟨S32768x2, .f32⟩
  | .hbm, ⟨89, _⟩ => ⟨S32768x2, .i32⟩
  | .hbm, ⟨90, _⟩ => ⟨S32768x1, .i32⟩
  | .hbm, ⟨91, _⟩ => ⟨S_, .i32⟩
  | .hbm, ⟨92, _⟩ => ⟨S32768x1, .i32⟩
  | .hbm, ⟨93, _⟩ => ⟨S32768x1, .i32⟩
  | .hbm, ⟨94, _⟩ => ⟨S32768x2, .i32⟩
  | .hbm, ⟨95, _⟩ => ⟨S32768x2, .i32⟩
  | .hbm, ⟨96, _⟩ => ⟨S32768x2, .f32⟩
  | .hbm, ⟨97, _⟩ => ⟨S32768x2, .f32⟩
  | _, _ => ⟨S32768x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_values : Ref sig .tc := ⟨.hbm, 24, rfl⟩
abbrev main_indices : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_c : Ref sig .tc := ⟨.hbm, 29, rfl⟩
abbrev main_v19 : Ref sig .tc := ⟨.hbm, 30, rfl⟩
abbrev main_c_2 : Ref sig .tc := ⟨.hbm, 31, rfl⟩
abbrev main_v20 : Ref sig .tc := ⟨.hbm, 32, rfl⟩
abbrev main_v21 : Ref sig .tc := ⟨.hbm, 33, rfl⟩
abbrev main_c_3 : Ref sig .tc := ⟨.hbm, 34, rfl⟩
abbrev main_c_4 : Ref sig .tc := ⟨.hbm, 35, rfl⟩
abbrev main_v22 : Ref sig .tc := ⟨.hbm, 36, rfl⟩
abbrev main_c_5 : Ref sig .tc := ⟨.hbm, 37, rfl⟩
abbrev main_c_6 : Ref sig .tc := ⟨.hbm, 38, rfl⟩
abbrev main_v23 : Ref sig .tc := ⟨.hbm, 39, rfl⟩
abbrev main_c_7 : Ref sig .tc := ⟨.hbm, 40, rfl⟩
abbrev main_v24 : Ref sig .tc := ⟨.hbm, 41, rfl⟩
abbrev main_c_8 : Ref sig .tc := ⟨.hbm, 42, rfl⟩
abbrev main_c_9 : Ref sig .tc := ⟨.hbm, 43, rfl⟩
abbrev main_v25 : Ref sig .tc := ⟨.hbm, 44, rfl⟩
abbrev main_c_10 : Ref sig .tc := ⟨.hbm, 45, rfl⟩
abbrev main_c_11 : Ref sig .tc := ⟨.hbm, 46, rfl⟩
abbrev main_v26 : Ref sig .tc := ⟨.hbm, 47, rfl⟩
abbrev main_c_12 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_c_13 : Ref sig .tc := ⟨.hbm, 54, rfl⟩
abbrev main_v32 : Ref sig .tc := ⟨.hbm, 55, rfl⟩
abbrev main_c_14 : Ref sig .tc := ⟨.hbm, 56, rfl⟩
abbrev main_v33 : Ref sig .tc := ⟨.hbm, 57, rfl⟩
abbrev main_v34 : Ref sig .tc := ⟨.hbm, 58, rfl⟩
abbrev main_c_15 : Ref sig .tc := ⟨.hbm, 59, rfl⟩
abbrev main_c_16 : Ref sig .tc := ⟨.hbm, 60, rfl⟩
abbrev main_v35 : Ref sig .tc := ⟨.hbm, 61, rfl⟩
abbrev main_c_17 : Ref sig .tc := ⟨.hbm, 62, rfl⟩
abbrev main_c_18 : Ref sig .tc := ⟨.hbm, 63, rfl⟩
abbrev main_v36 : Ref sig .tc := ⟨.hbm, 64, rfl⟩
abbrev main_c_19 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_cst_20 : Ref sig .tc := ⟨.hbm, 74, rfl⟩
abbrev main_v45 : Ref sig .tc := ⟨.hbm, 75, rfl⟩
abbrev main_cst_21 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_cst_22 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_values_23 : Ref sig .tc := ⟨.hbm, 88, rfl⟩
abbrev main_indices_24 : Ref sig .tc := ⟨.hbm, 89, rfl⟩
abbrev main_v56 : Ref sig .tc := ⟨.hbm, 90, rfl⟩
abbrev main_c_25 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩

abbrev nD : Nat := 1
abbrev τ : Topo := Topo.v7x

variable {F : FTy → Type} [FloatOps F]
-- ==== Proof.Steps.lean ====
/-
  The kernel's body run once at symbolic operands, in its two cases: the first grid point, which chooses the cluster and
  fills the two scratch buffers, and every later point, which finds them filled.
-/
module

public import proofs.«01_k».proof.Proof.Gen.KernelIdeal.Frame
public import proofs.«01_k».proof.Proof.Gen.KernelIdeal.Skeleton
public import Idealize.ShloMosaic.Lib.Claim
public import Idealize.ShloMosaic.Lib.VecWindow

@[expose] public section

set_option maxRecDepth 16384

noncomputable section

namespace Cert.Router

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at the first point, given that the chosen cluster is one of the eight. -/
def runFirst (c : Dev nD) (i : grid0.Coords) (arg1 : Memref sig .tc .vmem S1024x4096 .f32) (harg1 : arg1.IsWhole) (arg2 : Memref sig .tc .vmem S4096x8 .f32) (harg2 : arg2.IsWhole) (arg3 : Memref sig .tc .vmem S8x4096x8 .f32) (harg3 : arg3.IsWhole) (arg4 : Memref sig .tc .vmem S1x8x1 .f32) (harg4 : arg4.IsWhole) (arg5 : Memref sig .tc .vmem S8x8x1 .f32) (harg5 : arg5.IsWhole) (arg6 : Memref sig .tc .vmem S2x1024 .i32) (harg6 : arg6.IsWhole) (arg7 : Memref sig .tc .vmem S2x1024 .f32) (harg7 : arg7.IsWhole) (arg8 : Memref sig .tc .vmem S4096x16 .f32) (harg8 : arg8.IsWhole) (arg9 : Memref sig .tc .vmem S16x1 .f32) (harg9 : arg9.IsWhole)
    (x0 : Vec F S1024x4096 .f32) (x1 : Vec F S4096x8 .f32) (x2 : Vec F S8x4096x8 .f32) (x3 : Vec F S1x8x1 .f32) (x4 : Vec F S8x8x1 .f32)
    (hc : k0_cond1 i = 1#1) (hk : k0_chk1 i (extractAt ![0, 0, 0] (k0_pay8
        (arg1.view.readAt (Elt F) (Rect.unit (s := S1024x4096) ![0, 0] S1x4096.size inb_S1024x4096_S1x4096_0_0).toLoadRect (harg1.unread x0))
        (arg2.view.readAt (Elt F) (Rect.unit (s := S4096x8) ![0, 0] S4096x8.size inb_S4096x8_S4096x8_0_0).toLoadRect (harg2.unread x1))
        (arg4.view.readAt (Elt F) (Rect.unit (s := S1x8x1) ![0, 0, 0] S1x8x1.size inb_S1x8x1_S1x8x1_0_0_0).toLoadRect (harg4.unread x3)))
        inpos_S1x1x1_p0_0_0)) :
    Σ' (L5 : List (View.Piece (Elt F) S2x1024 .i32)), Σ' (L6 : List (View.Piece (Elt F) S2x1024 .f32)), Σ' (LS0 : List (View.Piece (Elt F) S4096x16 .f32)), { LS1 : List (View.Piece (Elt F) S16x1 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc0__router_kernel i arg1 harg1 arg2 harg2 arg3 harg3 arg4 harg4 arg5 harg5 arg6 harg6 arg7 harg7 arg8 harg8 arg9 harg9) K } := by
  refine ⟨?_, ?_, ?_, ?_, fun E K => ?run⟩
  case run =>
    simp only [cc0__router_kernel_eq_skeleton]; unfold cc0__router_kernel_skel
    simp only [k0_part2_eq_skeleton, k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4
    sl_exec (disch := first | sl_exact hc | sl_exact hk)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]; · iexists _; iexact H6
    isplitl [HS0]; · iexists _; iexact HS0
    iexists _; iexact HS1

set_option maxHeartbeats 1000000 in
/-- The body at a later point, the scratch buffers at `xs0` and `xs1`: they are left as they are. -/
def runLater (c : Dev nD) (i : grid0.Coords) (arg1 : Memref sig .tc .vmem S1024x4096 .f32) (harg1 : arg1.IsWhole) (arg2 : Memref sig .tc .vmem S4096x8 .f32) (harg2 : arg2.IsWhole) (arg3 : Memref sig .tc .vmem S8x4096x8 .f32) (harg3 : arg3.IsWhole) (arg4 : Memref sig .tc .vmem S1x8x1 .f32) (harg4 : arg4.IsWhole) (arg5 : Memref sig .tc .vmem S8x8x1 .f32) (harg5 : arg5.IsWhole) (arg6 : Memref sig .tc .vmem S2x1024 .i32) (harg6 : arg6.IsWhole) (arg7 : Memref sig .tc .vmem S2x1024 .f32) (harg7 : arg7.IsWhole) (arg8 : Memref sig .tc .vmem S4096x16 .f32) (harg8 : arg8.IsWhole) (arg9 : Memref sig .tc .vmem S16x1 .f32) (harg9 : arg9.IsWhole)
    (x0 : Vec F S1024x4096 .f32) (x1 : Vec F S4096x8 .f32) (x2 : Vec F S8x4096x8 .f32) (x3 : Vec F S1x8x1 .f32) (x4 : Vec F S8x8x1 .f32) (xs0 : Vec F S4096x16 .f32) (xs1 : Vec F S16x1 .f32)
    (hc : ¬k0_cond1 i = 1#1) :
    Σ' (L5 : List (View.Piece (Elt F) S2x1024 .i32)), { L6 : List (View.Piece (Elt F) S2x1024 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ owns (c : Thread nD τ) arg8 fullShare xs0 ∗ owns (c : Thread nD τ) arg9 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ owns (c : Thread nD τ) arg8 fullShare xs0 ∗ owns (c : Thread nD τ) arg9 fullShare xs1) -∗ K ⟨⟩))
          ⊢ wp frame (wpE (defs₀ (F := F)) Variants.none c none) E (cc0__router_kernel i arg1 harg1 arg2 harg2 arg3 harg3 arg4 harg4 arg5 harg5 arg6 harg6 arg7 harg7 arg8 harg8 arg9 harg9) K } := by
  refine ⟨?_, ?_, fun E K => ?run⟩
  case run =>
    simp only [cc0__router_kernel_eq_skeleton]; unfold cc0__router_kernel_skel
    simp only [k0_part2_eq_skeleton, k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg8.eq_unread hfs0; obtain rfl := harg9.eq_unread hfs1
    sl_exec (disch := first | sl_exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]; · iexists _; iexact H6
    isplitl [HS0]
    · iexists _; isplitr; · ipureintro; exact harg8.read_unread _
      iexact HS0
    iexists _; isplitr; · ipureintro; exact harg9.read_unread _
    iexact HS1

end Cert.Router

end
-- ==== Proof.Contents.lean ====
/-
  What the body leaves, in closed form: the two scratch buffers as functions of the weights and the chosen cluster, and
  the two result blocks as functions of the scratch and the block of tokens.
-/
module

public import proofs.«01_k».proof.Proof.Steps

@[expose] public section

set_option maxRecDepth 16384

noncomputable section

namespace Cert.Router

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The cluster the first point chooses, as the word the body computes from the first token's row, the clusters' weights
    and their biases. -/
def chosen (x0 : Vec F S1024x4096 .f32) (x1 : Vec F S4096x8 .f32) (x3 : Vec F S1x8x1 .f32) : BitVec 32 :=
  extractAt ![0, 0, 0] (k0_pay8 (View.ld x0 (Rect.unit (s := S1024x4096) ![0, 0] S1x4096.size inb_S1024x4096_S1x4096_0_0)) x1 x3) inpos_S1x1x1_p0_0_0

/-- The weights' scratch once filled: the clusters' columns, then the columns of the experts of cluster `v`. -/
def weights16 (x1 : Vec F S4096x8 .f32) (x2 : Vec F S8x4096x8 .f32) (v : BitVec 32)
    (h : ∀ a, (k0_off1 v) a + S1x4096x8.size a ≤ S8x4096x8.size a) : Vec F S4096x16 .f32 :=
  View.canon [⟨Rect.unit (s := S4096x16) ![0, 8] S4096x8.size inb_S4096x16_S4096x8_0_8,
      k0_pay10 (View.ld x2 (Rect.unit (s := S8x4096x8) (k0_off1 v) S1x4096x8.size h))⟩,
    ⟨Rect.unit (s := S4096x16) ![0, 0] S4096x8.size inb_S4096x16_S4096x8_0_0, k0_pay9 x1⟩]

/-- The biases' scratch once filled: the clusters' biases, then those of the experts of cluster `v`. -/
def biases16 (x3 : Vec F S1x8x1 .f32) (x4 : Vec F S8x8x1 .f32) (v : BitVec 32)
    (h : ∀ a, (k0_off2 v) a + S1x8x1.size a ≤ S8x8x1.size a) : Vec F S16x1 .f32 :=
  View.canon [⟨Rect.unit (s := S16x1) ![8, 0] S8x1.size inb_S16x1_S8x1_8_0,
      k0_pay13 (View.ld x4 (Rect.unit (s := S8x8x1) (k0_off2 v) S1x8x1.size h))⟩,
    ⟨Rect.unit (s := S16x1) ![0, 0] S8x1.size inb_S16x1_S8x1_0_0, k0_pay12 (k0_pay11 x3)⟩]

/-- The block of expert indices a point leaves, from the filled scratch and its block of tokens. -/
def idxBlock (w : Vec F S4096x16 .f32) (x0 : Vec F S1024x4096 .f32) (b : Vec F S16x1 .f32) : Vec F S2x1024 .i32 :=
  View.canon [⟨Rect.unit (s := S2x1024) ![1, 0] ![1, 1024] inb_S2x1024_S1x1024_1_0,
      k0_pay5 (k0_pay16 w x0 b) (iota .tc S8x1024 32 [0] iota_S8x1024_d0_w32) (k0_pay18 w x0 b) (k0_pay21 w x0 b)⟩,
    ⟨Rect.unit (s := S2x1024) ![0, 0] ![1, 1024] inb_S2x1024_S1x1024_0_0, k0_pay4 (k0_pay18 w x0 b) (k0_pay21 w x0 b)⟩]

/-- The block of weights a point leaves, likewise. -/
def wgtBlock (w : Vec F S4096x16 .f32) (x0 : Vec F S1024x4096 .f32) (b : Vec F S16x1 .f32) : Vec F S2x1024 .f32 :=
  View.canon [⟨Rect.unit (s := S2x1024) ![1, 0] ![1, 1024] inb_S2x1024_S1x1024_1_0,
      k0_pay7 (k0_pay16 w x0 b) (iota .tc S8x1024 32 [0] iota_S8x1024_d0_w32) (k0_pay19 w x0 b) (k0_pay20 w x0 b) (k0_pay21 w x0 b) (k0_pay22 w x0 b)⟩,
    ⟨Rect.unit (s := S2x1024) ![0, 0] ![1, 1024] inb_S2x1024_S1x1024_0_0, k0_pay6 (k0_pay19 w x0 b) (k0_pay22 w x0 b)⟩]

theorem canon_full [∀ e, Nonempty (Elt F e)] {s : Shape} {e : EltTy} (L : List (View.Piece (Elt F) s e)) {off : Fin s.rank → ℕ}
    (inb : ∀ a, off a + s.size a ≤ s.size a) :
    (fun j => View.canon L ((Rect.unit off s.size inb).toLoadRect.idx j)) = View.canon L := by
  funext y
  exact congrArg (View.canon L) (funext fun a => Fin.ext (by
    show off a + 1 * (y a).val = (y a).val
    have := inb a; omega))

attribute [local irreducible] extractAt k0_pay8

theorem pay8_congr {a a' : Vec F S1x4096 .f32} {b b' : Vec F S4096x8 .f32} {d d' : Vec F S1x8x1 .f32} (ha : a = a') (hb : b = b') (hd : d = d') :
    k0_pay8 a b d = k0_pay8 a' b' d' := by subst ha hb hd; rfl

/-- A whole staged block reads back what it was staged with. -/
theorem read_whole {s : Shape} {e : EltTy} (M : Memref sig .tc .vmem s e) (hM : M.IsWhole) (X : Vec F s e) {off : Fin s.rank → ℕ} (inb : ∀ a, off a + s.size a ≤ s.size a) :
    M.view.readAt (Elt F) (Rect.unit off s.size inb).toLoadRect (hM.unread X) = X :=
  (View.readAt_full M.view (hM.unread X) inb).trans (hM.read_unread X)

/-- A window of a staged block reads the window of what it was staged with. -/
theorem read_part {s : Shape} {e : EltTy} (M : Memref sig .tc .vmem s e) (hM : M.IsWhole) (X : Vec F s e) (r : Rect s) :
    M.view.readAt (Elt F) r.toLoadRect (hM.unread X) = View.ld X r :=
  (View.readAt_eq_ld M.view (hM.unread X) r).trans (congrArg (fun Y => View.ld Y r) (hM.read_unread X))

/-- The word read off the staged blocks is the chosen cluster. -/
theorem chosen_read (arg1 : Memref sig .tc .vmem S1024x4096 .f32) (harg1 : arg1.IsWhole) (arg2 : Memref sig .tc .vmem S4096x8 .f32) (harg2 : arg2.IsWhole) (arg4 : Memref sig .tc .vmem S1x8x1 .f32) (harg4 : arg4.IsWhole)
    (x0 : Vec F S1024x4096 .f32) (x1 : Vec F S4096x8 .f32) (x3 : Vec F S1x8x1 .f32) :
    extractAt ![0, 0, 0] (k0_pay8 (arg1.view.readAt (Elt F) (Rect.unit (s := S1024x4096) ![0, 0] S1x4096.size inb_S1024x4096_S1x4096_0_0).toLoadRect (harg1.unread x0))
        (arg2.view.readAt (Elt F) (Rect.unit (s := S4096x8) ![0, 0] S4096x8.size inb_S4096x8_S4096x8_0_0).toLoadRect (harg2.unread x1))
        (arg4.view.readAt (Elt F) (Rect.unit (s := S1x8x1) ![0, 0, 0] S1x8x1.size inb_S1x8x1_S1x8x1_0_0_0).toLoadRect (harg4.unread x3))) inpos_S1x1x1_p0_0_0 = chosen x0 x1 x3 :=
  congrArg (fun z => extractAt ![0, 0, 0] z inpos_S1x1x1_p0_0_0) (pay8_congr
    (read_part arg1 harg1 x0 (Rect.unit (s := S1024x4096) ![0, 0] S1x4096.size inb_S1024x4096_S1x4096_0_0))
    (read_whole arg2 harg2 x1 inb_S4096x8_S4096x8_0_0) (read_whole arg4 harg4 x3 inb_S1x8x1_S1x8x1_0_0_0))

/-- A window of the experts' weights at a word's offset, read off the staged block. -/
theorem read_off1 (M : Memref sig .tc .vmem S8x4096x8 .f32) (hM : M.IsWhole) (X : Vec F S8x4096x8 .f32) {v v' : BitVec 32} (e : v = v')
    (h : ∀ a, (k0_off1 v) a + S1x4096x8.size a ≤ S8x4096x8.size a) (h' : ∀ a, (k0_off1 v') a + S1x4096x8.size a ≤ S8x4096x8.size a) :
    (M.view.readAt (Elt F) (Rect.unit (s := S8x4096x8) (k0_off1 v) S1x4096x8.size h).toLoadRect (hM.unread X) : Vec F S1x4096x8 .f32)
      = View.ld X (Rect.unit (s := S8x4096x8) (k0_off1 v') S1x4096x8.size h') := by
  subst e
  exact read_part M hM X (Rect.unit (s := S8x4096x8) (k0_off1 v) S1x4096x8.size h)

/-- A window of the experts' biases likewise. -/
theorem read_off2 (M : Memref sig .tc .vmem S8x8x1 .f32) (hM : M.IsWhole) (X : Vec F S8x8x1 .f32) {v v' : BitVec 32} (e : v = v')
    (h : ∀ a, (k0_off2 v) a + S1x8x1.size a ≤ S8x8x1.size a) (h' : ∀ a, (k0_off2 v') a + S1x8x1.size a ≤ S8x8x1.size a) :
    (M.view.readAt (Elt F) (Rect.unit (s := S8x8x1) (k0_off2 v) S1x8x1.size h).toLoadRect (hM.unread X) : Vec F S1x8x1 .f32)
      = View.ld X (Rect.unit (s := S8x8x1) (k0_off2 v') S1x8x1.size h') := by
  subst e
  exact read_part M hM X (Rect.unit (s := S8x8x1) (k0_off2 v) S1x8x1.size h)

theorem first_weights (c : Dev nD) (i : grid0.Coords) (arg1 : Memref sig .tc .vmem S1024x4096 .f32) (harg1 : arg1.IsWhole) (arg2 : Memref sig .tc .vmem S4096x8 .f32) (harg2 : arg2.IsWhole) (arg3 : Memref sig .tc .vmem S8x4096x8 .f32) (harg3 : arg3.IsWhole) (arg4 : Memref sig .tc .vmem S1x8x1 .f32) (harg4 : arg4.IsWhole) (arg5 : Memref sig .tc .vmem S8x8x1 .f32) (harg5 : arg5.IsWhole) (arg6 : Memref sig .tc .vmem S2x1024 .i32) (harg6 : arg6.IsWhole) (arg7 : Memref sig .tc .vmem S2x1024 .f32) (harg7 : arg7.IsWhole) (arg8 : Memref sig .tc .vmem S4096x16 .f32) (harg8 : arg8.IsWhole) (arg9 : Memref sig .tc .vmem S16x1 .f32) (harg9 : arg9.IsWhole)
    (x0 : Vec F S1024x4096 .f32) (x1 : Vec F S4096x8 .f32) (x2 : Vec F S8x4096x8 .f32) (x3 : Vec F S1x8x1 .f32) (x4 : Vec F S8x8x1 .f32)
    (hc : k0_cond1 i = 1#1) (hk' : k0_chk1 i (extractAt ![0, 0, 0] (k0_pay8 (arg1.view.readAt (Elt F) (Rect.unit (s := S1024x4096) ![0, 0] S1x4096.size inb_S1024x4096_S1x4096_0_0).toLoadRect (harg1.unread x0))
        (arg2.view.readAt (Elt F) (Rect.unit (s := S4096x8) ![0, 0] S4096x8.size inb_S4096x8_S4096x8_0_0).toLoadRect (harg2.unread x1))
        (arg4.view.readAt (Elt F) (Rect.unit (s := S1x8x1) ![0, 0, 0] S1x8x1.size inb_S1x8x1_S1x8x1_0_0_0).toLoadRect (harg4.unread x3))) inpos_S1x1x1_p0_0_0)) (hk : k0_chk1 i (chosen x0 x1 x3)) :
    (View.canon (Val := Elt F) (runFirst.sl.HS0_2 (F := F) c i arg1 harg1 arg2 harg2 arg3 harg3 arg4 harg4 x0 x1 x2 x3 hc hk') : Vec F S4096x16 .f32) = weights16 x1 x2 (chosen x0 x1 x3) (hk.1 hc) := by
  unfold runFirst.sl.HS0_2 runFirst.sl.v91 weights16
  exact congrArg₂ (fun (p q : Vec F S4096x8 .f32) => View.canon [⟨Rect.unit (s := S4096x16) ![0, 8] S4096x8.size inb_S4096x16_S4096x8_0_8, p⟩,
      ⟨Rect.unit (s := S4096x16) ![0, 0] S4096x8.size inb_S4096x16_S4096x8_0_0, q⟩])
    (congrArg k0_pay10 (read_off1 arg3 harg3 x2 (chosen_read arg1 harg1 arg2 harg2 arg4 harg4 x0 x1 x3) _ _))
    (congrArg k0_pay9 (read_whole arg2 harg2 x1 inb_S4096x8_S4096x8_0_0))

theorem first_biases (c : Dev nD) (i : grid0.Coords) (arg1 : Memref sig .tc .vmem S1024x4096 .f32) (harg1 : arg1.IsWhole) (arg2 : Memref sig .tc .vmem S4096x8 .f32) (harg2 : arg2.IsWhole) (arg3 : Memref sig .tc .vmem S8x4096x8 .f32) (harg3 : arg3.IsWhole) (arg4 : Memref sig .tc .vmem S1x8x1 .f32) (harg4 : arg4.IsWhole) (arg5 : Memref sig .tc .vmem S8x8x1 .f32) (harg5 : arg5.IsWhole) (arg6 : Memref sig .tc .vmem S2x1024 .i32) (harg6 : arg6.IsWhole) (arg7 : Memref sig .tc .vmem S2x1024 .f32) (harg7 : arg7.IsWhole) (arg8 : Memref sig .tc .vmem S4096x16 .f32) (harg8 : arg8.IsWhole) (arg9 : Memref sig .tc .vmem S16x1 .f32) (harg9 : arg9.IsWhole)
    (x0 : Vec F S1024x4096 .f32) (x1 : Vec F S4096x8 .f32) (x2 : Vec F S8x4096x8 .f32) (x3 : Vec F S1x8x1 .f32) (x4 : Vec F S8x8x1 .f32)
    (hc : k0_cond1 i = 1#1) (hk' : k0_chk1 i (extractAt ![0, 0, 0] (k0_pay8 (arg1.view.readAt (Elt F) (Rect.unit (s := S1024x4096) ![0, 0] S1x4096.size inb_S1024x4096_S1x4096_0_0).toLoadRect (harg1.unread x0))
        (arg2.view.readAt (Elt F) (Rect.unit (s := S4096x8) ![0, 0] S4096x8.size inb_S4096x8_S4096x8_0_0).toLoadRect (harg2.unread x1))
        (arg4.view.readAt (Elt F) (Rect.unit (s := S1x8x1) ![0, 0, 0] S1x8x1.size inb_S1x8x1_S1x8x1_0_0_0).toLoadRect (harg4.unread x3))) inpos_S1x1x1_p0_0_0)) (hk : k0_chk1 i (chosen x0 x1 x3)) :
    (View.canon (Val := Elt F) (runFirst.sl.HS1_2 (F := F) c i arg1 harg1 arg2 harg2 arg4 harg4 arg5 harg5 x0 x1 x3 x4 hc hk') : Vec F S16x1 .f32) = biases16 x3 x4 (chosen x0 x1 x3) (hk.2 hc) := by
  unfold runFirst.sl.HS1_2 runFirst.sl.v102 runFirst.sl.r biases16
  exact congrArg₂ (fun (p q : Vec F S8x1 .f32) => View.canon [⟨Rect.unit (s := S16x1) ![8, 0] S8x1.size inb_S16x1_S8x1_8_0, p⟩,
      ⟨Rect.unit (s := S16x1) ![0, 0] S8x1.size inb_S16x1_S8x1_0_0, q⟩])
    (congrArg k0_pay13 (read_off2 arg5 harg5 x4 (chosen_read arg1 harg1 arg2 harg2 arg4 harg4 x0 x1 x3) _ _))
    (congrArg (fun z => k0_pay12 (k0_pay11 z)) (read_whole arg4 harg4 x3 inb_S1x8x1_S1x8x1_0_0_0))

theorem first_idx (c : Dev nD) (i : grid0.Coords) (arg1 : Memref sig .tc .vmem S1024x4096 .f32) (harg1 : arg1.IsWhole) (arg2 : Memref sig .tc .vmem S4096x8 .f32) (harg2 : arg2.IsWhole) (arg3 : Memref sig .tc .vmem S8x4096x8 .f32) (harg3 : arg3.IsWhole) (arg4 : Memref sig .tc .vmem S1x8x1 .f32) (harg4 : arg4.IsWhole) (arg5 : Memref sig .tc .vmem S8x8x1 .f32) (harg5 : arg5.IsWhole) (arg6 : Memref sig .tc .vmem S2x1024 .i32) (harg6 : arg6.IsWhole) (arg7 : Memref sig .tc .vmem S2x1024 .f32) (harg7 : arg7.IsWhole) (arg8 : Memref sig .tc .vmem S4096x16 .f32) (harg8 : arg8.IsWhole) (arg9 : Memref sig .tc .vmem S16x1 .f32) (harg9 : arg9.IsWhole)
    (x0 : Vec F S1024x4096 .f32) (x1 : Vec F S4096x8 .f32) (x2 : Vec F S8x4096x8 .f32) (x3 : Vec F S1x8x1 .f32) (x4 : Vec F S8x8x1 .f32)
    (hc : k0_cond1 i = 1#1) (hk' : k0_chk1 i (extractAt ![0, 0, 0] (k0_pay8 (arg1.view.readAt (Elt F) (Rect.unit (s := S1024x4096) ![0, 0] S1x4096.size inb_S1024x4096_S1x4096_0_0).toLoadRect (harg1.unread x0))
        (arg2.view.readAt (Elt F) (Rect.unit (s := S4096x8) ![0, 0] S4096x8.size inb_S4096x8_S4096x8_0_0).toLoadRect (harg2.unread x1))
        (arg4.view.readAt (Elt F) (Rect.unit (s := S1x8x1) ![0, 0, 0] S1x8x1.size inb_S1x8x1_S1x8x1_0_0_0).toLoadRect (harg4.unread x3))) inpos_S1x1x1_p0_0_0)) (hk : k0_chk1 i (chosen x0 x1 x3)) :
    (View.canon (Val := Elt F) (runFirst (F := F) c i arg1 harg1 arg2 harg2 arg3 harg3 arg4 harg4 arg5 harg5 arg6 harg6 arg7 harg7 arg8 harg8 arg9 harg9 x0 x1 x2 x3 x4 hc hk').1 : Vec F S2x1024 .i32)
      = idxBlock (weights16 x1 x2 (chosen x0 x1 x3) (hk.1 hc)) x0 (biases16 x3 x4 (chosen x0 x1 x3) (hk.2 hc)) := by
  have e3 : runFirst.sl.v3 (F := F) c i arg1 harg1 arg2 harg2 arg3 harg3 arg4 harg4 arg8 x0 x1 x2 x3 hc hk' = weights16 x1 x2 (chosen x0 x1 x3) (hk.1 hc) :=
    (View.readCov_eq_canon' _ _ _).trans ((canon_full _ _).trans (first_weights c i arg1 harg1 arg2 harg2 arg3 harg3 arg4 harg4 arg5 harg5 arg6 harg6 arg7 harg7 arg8 harg8 arg9 harg9 x0 x1 x2 x3 x4 hc hk' hk))
  have e6 : runFirst.sl.v6 (F := F) c i arg1 harg1 arg2 harg2 arg4 harg4 arg5 harg5 arg9 x0 x1 x3 x4 hc hk' = biases16 x3 x4 (chosen x0 x1 x3) (hk.2 hc) :=
    (View.readCov_eq_canon' _ _ _).trans ((canon_full _ _).trans (first_biases c i arg1 harg1 arg2 harg2 arg3 harg3 arg4 harg4 arg5 harg5 arg6 harg6 arg7 harg7 arg8 harg8 arg9 harg9 x0 x1 x2 x3 x4 hc hk' hk))
  have e1 := read_whole (F := F) arg1 harg1 x0 inb_S1024x4096_S1024x4096_0_0
  rw [← e3, ← e6]
  exact congrArg (fun z => idxBlock (runFirst.sl.v3 (F := F) c i arg1 harg1 arg2 harg2 arg3 harg3 arg4 harg4 arg8 x0 x1 x2 x3 hc hk') z (runFirst.sl.v6 (F := F) c i arg1 harg1 arg2 harg2 arg4 harg4 arg5 harg5 arg9 x0 x1 x3 x4 hc hk')) e1

/-- Two halves of columns cover the weights' scratch, -/
theorem cover16 (p q : Vec F S4096x8 .f32) : ∀ y : S4096x16.Idx, ∃ r ∈ ([⟨Rect.unit (s := S4096x16) ![0, 8] S4096x8.size inb_S4096x16_S4096x8_0_8, p⟩,
      ⟨Rect.unit (s := S4096x16) ![0, 0] S4096x8.size inb_S4096x16_S4096x8_0_0, q⟩] : List (View.Piece (Elt F) S4096x16 .f32)), y ∈ r.1.set :=
  View.cover_of_tiledL _ S4096x8.size (by sl_kernel_rfl)

/-- two halves of rows the biases' scratch, -/
theorem cover16b (p q : Vec F S8x1 .f32) : ∀ y : S16x1.Idx, ∃ r ∈ ([⟨Rect.unit (s := S16x1) ![8, 0] S8x1.size inb_S16x1_S8x1_8_0, p⟩,
      ⟨Rect.unit (s := S16x1) ![0, 0] S8x1.size inb_S16x1_S8x1_0_0, q⟩] : List (View.Piece (Elt F) S16x1 .f32)), y ∈ r.1.set :=
  View.cover_of_tiledL _ S8x1.size (by sl_kernel_rfl)

/-- and two rows a result block. -/
theorem cover2 {e : EltTy} (p q : Vec F S1x1024 e) : ∀ y : S2x1024.Idx, ∃ r ∈ ([⟨Rect.unit (s := S2x1024) ![1, 0] ![1, 1024] inb_S2x1024_S1x1024_1_0, p⟩,
      ⟨Rect.unit (s := S2x1024) ![0, 0] ![1, 1024] inb_S2x1024_S1x1024_0_0, q⟩] : List (View.Piece (Elt F) S2x1024 e)), y ∈ r.1.set :=
  View.cover_of_tiledL _ ![1, 1024] (by sl_kernel_rfl)

theorem first_wgt (c : Dev nD) (i : grid0.Coords) (arg1 : Memref sig .tc .vmem S1024x4096 .f32) (harg1 : arg1.IsWhole) (arg2 : Memref sig .tc .vmem S4096x8 .f32) (harg2 : arg2.IsWhole) (arg3 : Memref sig .tc .vmem S8x4096x8 .f32) (harg3 : arg3.IsWhole) (arg4 : Memref sig .tc .vmem S1x8x1 .f32) (harg4 : arg4.IsWhole) (arg5 : Memref sig .tc .vmem S8x8x1 .f32) (harg5 : arg5.IsWhole) (arg6 : Memref sig .tc .vmem S2x1024 .i32) (harg6 : arg6.IsWhole) (arg7 : Memref sig .tc .vmem S2x1024 .f32) (harg7 : arg7.IsWhole) (arg8 : Memref sig .tc .vmem S4096x16 .f32) (harg8 : arg8.IsWhole) (arg9 : Memref sig .tc .vmem S16x1 .f32) (harg9 : arg9.IsWhole)
    (x0 : Vec F S1024x4096 .f32) (x1 : Vec F S4096x8 .f32) (x2 : Vec F S8x4096x8 .f32) (x3 : Vec F S1x8x1 .f32) (x4 : Vec F S8x8x1 .f32)
    (hc : k0_cond1 i = 1#1) (hk' : k0_chk1 i (extractAt ![0, 0, 0] (k0_pay8 (arg1.view.readAt (Elt F) (Rect.unit (s := S1024x4096) ![0, 0] S1x4096.size inb_S1024x4096_S1x4096_0_0).toLoadRect (harg1.unread x0))
        (arg2.view.readAt (Elt F) (Rect.unit (s := S4096x8) ![0, 0] S4096x8.size inb_S4096x8_S4096x8_0_0).toLoadRect (harg2.unread x1))
        (arg4.view.readAt (Elt F) (Rect.unit (s := S1x8x1) ![0, 0, 0] S1x8x1.size inb_S1x8x1_S1x8x1_0_0_0).toLoadRect (harg4.unread x3))) inpos_S1x1x1_p0_0_0)) (hk : k0_chk1 i (chosen x0 x1 x3)) :
    (View.canon (Val := Elt F) (runFirst (F := F) c i arg1 harg1 arg2 harg2 arg3 harg3 arg4 harg4 arg5 harg5 arg6 harg6 arg7 harg7 arg8 harg8 arg9 harg9 x0 x1 x2 x3 x4 hc hk').2.1 : Vec F S2x1024 .f32)
      = wgtBlock (weights16 x1 x2 (chosen x0 x1 x3) (hk.1 hc)) x0 (biases16 x3 x4 (chosen x0 x1 x3) (hk.2 hc)) := by
  have e3 : runFirst.sl.v3 (F := F) c i arg1 harg1 arg2 harg2 arg3 harg3 arg4 harg4 arg8 x0 x1 x2 x3 hc hk' = weights16 x1 x2 (chosen x0 x1 x3) (hk.1 hc) :=
    (View.readCov_eq_canon' _ _ _).trans ((canon_full _ _).trans (first_weights c i arg1 harg1 arg2 harg2 arg3 harg3 arg4 harg4 arg5 harg5 arg6 harg6 arg7 harg7 arg8 harg8 arg9 harg9 x0 x1 x2 x3 x4 hc hk' hk))
  have e6 : runFirst.sl.v6 (F := F) c i arg1 harg1 arg2 harg2 arg4 harg4 arg5 harg5 arg9 x0 x1 x3 x4 hc hk' = biases16 x3 x4 (chosen x0 x1 x3) (hk.2 hc) :=
    (View.readCov_eq_canon' _ _ _).trans ((canon_full _ _).trans (first_biases c i arg1 harg1 arg2 harg2 arg3 harg3 arg4 harg4 arg5 harg5 arg6 harg6 arg7 harg7 arg8 harg8 arg9 harg9 x0 x1 x2 x3 x4 hc hk' hk))
  have e1 := read_whole (F := F) arg1 harg1 x0 inb_S1024x4096_S1024x4096_0_0
  rw [← e3, ← e6]
  exact congrArg (fun z => wgtBlock (runFirst.sl.v3 (F := F) c i arg1 harg1 arg2 harg2 arg3 harg3 arg4 harg4 arg8 x0 x1 x2 x3 hc hk') z (runFirst.sl.v6 (F := F) c i arg1 harg1 arg2 harg2 arg4 harg4 arg5 harg5 arg9 x0 x1 x3 x4 hc hk')) e1

theorem later_idx (c : Dev nD) (i : grid0.Coords) (arg1 : Memref sig .tc .vmem S1024x4096 .f32) (harg1 : arg1.IsWhole) (arg2 : Memref sig .tc .vmem S4096x8 .f32) (harg2 : arg2.IsWhole) (arg3 : Memref sig .tc .vmem S8x4096x8 .f32) (harg3 : arg3.IsWhole) (arg4 : Memref sig .tc .vmem S1x8x1 .f32) (harg4 : arg4.IsWhole) (arg5 : Memref sig .tc .vmem S8x8x1 .f32) (harg5 : arg5.IsWhole) (arg6 : Memref sig .tc .vmem S2x1024 .i32) (harg6 : arg6.IsWhole) (arg7 : Memref sig .tc .vmem S2x1024 .f32) (harg7 : arg7.IsWhole) (arg8 : Memref sig .tc .vmem S4096x16 .f32) (harg8 : arg8.IsWhole) (arg9 : Memref sig .tc .vmem S16x1 .f32) (harg9 : arg9.IsWhole)
    (x0 : Vec F S1024x4096 .f32) (x1 : Vec F S4096x8 .f32) (x2 : Vec F S8x4096x8 .f32) (x3 : Vec F S1x8x1 .f32) (x4 : Vec F S8x8x1 .f32) (xs0 : Vec F S4096x16 .f32) (xs1 : Vec F S16x1 .f32)
    (hc : ¬k0_cond1 i = 1#1) :
    (View.canon (Val := Elt F) (runLater (F := F) c i arg1 harg1 arg2 harg2 arg3 harg3 arg4 harg4 arg5 harg5 arg6 harg6 arg7 harg7 arg8 harg8 arg9 harg9 x0 x1 x2 x3 x4 xs0 xs1 hc).1 : Vec F S2x1024 .i32) = idxBlock xs0 x0 xs1 := by
  have e8 := read_whole (F := F) arg8 harg8 xs0 inb_S4096x16_S4096x16_0_0
  have e1 := read_whole (F := F) arg1 harg1 x0 inb_S1024x4096_S1024x4096_0_0
  have e9 := read_whole (F := F) arg9 harg9 xs1 inb_S16x1_S16x1_0_0
  exact (congrArg (fun z => idxBlock z _ _) e8).trans ((congrArg (fun z => idxBlock _ z _) e1).trans (congrArg (fun z => idxBlock _ _ z) e9))

theorem later_wgt (c : Dev nD) (i : grid0.Coords) (arg1 : Memref sig .tc .vmem S1024x4096 .f32) (harg1 : arg1.IsWhole) (arg2 : Memref sig .tc .vmem S4096x8 .f32) (harg2 : arg2.IsWhole) (arg3 : Memref sig .tc .vmem S8x4096x8 .f32) (harg3 : arg3.IsWhole) (arg4 : Memref sig .tc .vmem S1x8x1 .f32) (harg4 : arg4.IsWhole) (arg5 : Memref sig .tc .vmem S8x8x1 .f32) (harg5 : arg5.IsWhole) (arg6 : Memref sig .tc .vmem S2x1024 .i32) (harg6 : arg6.IsWhole) (arg7 : Memref sig .tc .vmem S2x1024 .f32) (harg7 : arg7.IsWhole) (arg8 : Memref sig .tc .vmem S4096x16 .f32) (harg8 : arg8.IsWhole) (arg9 : Memref sig .tc .vmem S16x1 .f32) (harg9 : arg9.IsWhole)
    (x0 : Vec F S1024x4096 .f32) (x1 : Vec F S4096x8 .f32) (x2 : Vec F S8x4096x8 .f32) (x3 : Vec F S1x8x1 .f32) (x4 : Vec F S8x8x1 .f32) (xs0 : Vec F S4096x16 .f32) (xs1 : Vec F S16x1 .f32)
    (hc : ¬k0_cond1 i = 1#1) :
    (View.canon (Val := Elt F) (runLater (F := F) c i arg1 harg1 arg2 harg2 arg3 harg3 arg4 harg4 arg5 harg5 arg6 harg6 arg7 harg7 arg8 harg8 arg9 harg9 x0 x1 x2 x3 x4 xs0 xs1 hc).2.1 : Vec F S2x1024 .f32) = wgtBlock xs0 x0 xs1 := by
  have e8 := read_whole (F := F) arg8 harg8 xs0 inb_S4096x16_S4096x16_0_0
  have e1 := read_whole (F := F) arg1 harg1 x0 inb_S1024x4096_S1024x4096_0_0
  have e9 := read_whole (F := F) arg9 harg9 xs1 inb_S16x1_S16x1_0_0
  exact (congrArg (fun z => wgtBlock z _ _) e8).trans ((congrArg (fun z => wgtBlock _ z _) e1).trans (congrArg (fun z => wgtBlock _ _ z) e9))

set_option maxHeartbeats 1000000 in
/-- The body at the first point: it fills the scratch and leaves the blocks of its tokens. -/
theorem first_body (c : Dev nD) (i : grid0.Coords) (arg1 : Memref sig .tc .vmem S1024x4096 .f32) (harg1 : arg1.IsWhole) (arg2 : Memref sig .tc .vmem S4096x8 .f32) (harg2 : arg2.IsWhole) (arg3 : Memref sig .tc .vmem S8x4096x8 .f32) (harg3 : arg3.IsWhole) (arg4 : Memref sig .tc .vmem S1x8x1 .f32) (harg4 : arg4.IsWhole) (arg5 : Memref sig .tc .vmem S8x8x1 .f32) (harg5 : arg5.IsWhole) (arg6 : Memref sig .tc .vmem S2x1024 .i32) (harg6 : arg6.IsWhole) (arg7 : Memref sig .tc .vmem S2x1024 .f32) (harg7 : arg7.IsWhole) (arg8 : Memref sig .tc .vmem S4096x16 .f32) (harg8 : arg8.IsWhole) (arg9 : Memref sig .tc .vmem S16x1 .f32) (harg9 : arg9.IsWhole)
    (x0 : Vec F S1024x4096 .f32) (x1 : Vec F S4096x8 .f32) (x2 : Vec F S8x4096x8 .f32) (x3 : Vec F S1x8x1 .f32) (x4 : Vec F S8x8x1 .f32)
    (hc : k0_cond1 i = 1#1) (hk : k0_chk1 i (chosen x0 x1 x3)) (E : Set ℕ) (K : PUnit → sProp 𝕄) :
      iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
          ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (idxBlock (weights16 x1 x2 (chosen x0 x1 x3) (hk.1 hc)) x0 (biases16 x3 x4 (chosen x0 x1 x3) (hk.2 hc))) ∗ owns (c : Thread nD τ) arg7 fullShare (wgtBlock (weights16 x1 x2 (chosen x0 x1 x3) (hk.1 hc)) x0 (biases16 x3 x4 (chosen x0 x1 x3) (hk.2 hc))) ∗ owns (c : Thread nD τ) arg8 fullShare (weights16 x1 x2 (chosen x0 x1 x3) (hk.1 hc)) ∗ owns (c : Thread nD τ) arg9 fullShare (biases16 x3 x4 (chosen x0 x1 x3) (hk.2 hc))) -∗ K ⟨⟩))
        ⊢ wp frame (wpE (defs₀ (F := F)) Variants.none c none) E (cc0__router_kernel i arg1 harg1 arg2 harg2 arg3 harg3 arg4 harg4 arg5 harg5 arg6 harg6 arg7 harg7 arg8 harg8 arg9 harg9) K := by
  have hk' := Eq.mpr (congrArg (k0_chk1 i) (chosen_read (F := F) arg1 harg1 arg2 harg2 arg4 harg4 x0 x1 x3)) hk
  iintro ⟨H0, H1, H2, H3, H4, H5, H6, HS0, HS1, Hk⟩
  iapply (runFirst (F := F) c i arg1 harg1 arg2 harg2 arg3 harg3 arg4 harg4 arg5 harg5 arg6 harg6 arg7 harg7 arg8 harg8 arg9 harg9 x0 x1 x2 x3 x4 hc hk').2.2.2.2 E K
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HS0]; · iexact HS0
  isplitl [HS1]; · iexact HS1
  iintro ⟨H0, H1, H2, H3, H4, ⟨%e5, H5⟩, ⟨%e6, H6⟩, ⟨%es0, HS0⟩, ⟨%es1, HS1⟩⟩
  iapply Hk
  isplitl [H0]; · iexact H0
  isplitl [H1]; · iexact H1
  isplitl [H2]; · iexact H2
  isplitl [H3]; · iexact H3
  isplitl [H4]; · iexact H4
  isplitl [H5]
  · unfold owns; iexists _; isplitr
    swap; · iexact H5
    ipureintro; exact (View.read_writes_eq_canon _ _ _ (cover2 (F := F) _ _)).trans (first_idx c i arg1 harg1 arg2 harg2 arg3 harg3 arg4 harg4 arg5 harg5 arg6 harg6 arg7 harg7 arg8 harg8 arg9 harg9 x0 x1 x2 x3 x4 hc hk' hk)
  isplitl [H6]
  · unfold owns; iexists _; isplitr
    swap; · iexact H6
    ipureintro; exact (View.read_writes_eq_canon _ _ _ (cover2 (F := F) _ _)).trans (first_wgt c i arg1 harg1 arg2 harg2 arg3 harg3 arg4 harg4 arg5 harg5 arg6 harg6 arg7 harg7 arg8 harg8 arg9 harg9 x0 x1 x2 x3 x4 hc hk' hk)
  isplitl [HS0]
  · unfold owns; iexists _; isplitr
    swap; · iexact HS0
    ipureintro; exact (View.read_writes_eq_canon _ _ _ (cover16 (F := F) _ _)).trans (first_weights c i arg1 harg1 arg2 harg2 arg3 harg3 arg4 harg4 arg5 harg5 arg6 harg6 arg7 harg7 arg8 harg8 arg9 harg9 x0 x1 x2 x3 x4 hc hk' hk)
  unfold owns; iexists _; isplitr
  swap; · iexact HS1
  ipureintro; exact (View.read_writes_eq_canon _ _ _ (cover16b (F := F) _ _)).trans (first_biases c i arg1 harg1 arg2 harg2 arg3 harg3 arg4 harg4 arg5 harg5 arg6 harg6 arg7 harg7 arg8 harg8 arg9 harg9 x0 x1 x2 x3 x4 hc hk' hk)

set_option maxHeartbeats 1000000 in
/-- The body at a later point: it leaves the scratch as it is, and the blocks of its tokens. -/
theorem later_body (c : Dev nD) (i : grid0.Coords) (arg1 : Memref sig .tc .vmem S1024x4096 .f32) (harg1 : arg1.IsWhole) (arg2 : Memref sig .tc .vmem S4096x8 .f32) (harg2 : arg2.IsWhole) (arg3 : Memref sig .tc .vmem S8x4096x8 .f32) (harg3 : arg3.IsWhole) (arg4 : Memref sig .tc .vmem S1x8x1 .f32) (harg4 : arg4.IsWhole) (arg5 : Memref sig .tc .vmem S8x8x1 .f32) (harg5 : arg5.IsWhole) (arg6 : Memref sig .tc .vmem S2x1024 .i32) (harg6 : arg6.IsWhole) (arg7 : Memref sig .tc .vmem S2x1024 .f32) (harg7 : arg7.IsWhole) (arg8 : Memref sig .tc .vmem S4096x16 .f32) (harg8 : arg8.IsWhole) (arg9 : Memref sig .tc .vmem S16x1 .f32) (harg9 : arg9.IsWhole)
    (x0 : Vec F S1024x4096 .f32) (x1 : Vec F S4096x8 .f32) (x2 : Vec F S8x4096x8 .f32) (x3 : Vec F S1x8x1 .f32) (x4 : Vec F S8x8x1 .f32) (xs0 : Vec F S4096x16 .f32) (xs1 : Vec F S16x1 .f32)
    (hc : ¬k0_cond1 i = 1#1) (E : Set ℕ) (K : PUnit → sProp 𝕄) :
      iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ owns (c : Thread nD τ) arg8 fullShare xs0 ∗ owns (c : Thread nD τ) arg9 fullShare xs1
          ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (idxBlock xs0 x0 xs1) ∗ owns (c : Thread nD τ) arg7 fullShare (wgtBlock xs0 x0 xs1) ∗ owns (c : Thread nD τ) arg8 fullShare xs0 ∗ owns (c : Thread nD τ) arg9 fullShare xs1) -∗ K ⟨⟩))
        ⊢ wp frame (wpE (defs₀ (F := F)) Variants.none c none) E (cc0__router_kernel i arg1 harg1 arg2 harg2 arg3 harg3 arg4 harg4 arg5 harg5 arg6 harg6 arg7 harg7 arg8 harg8 arg9 harg9) K := by
  iintro ⟨H0, H1, H2, H3, H4, H5, H6, HS0, HS1, Hk⟩
  iapply (runLater (F := F) c i arg1 harg1 arg2 harg2 arg3 harg3 arg4 harg4 arg5 harg5 arg6 harg6 arg7 harg7 arg8 harg8 arg9 harg9 x0 x1 x2 x3 x4 xs0 xs1 hc).2.2 E K
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HS0]; · iexact HS0
  isplitl [HS1]; · iexact HS1
  iintro ⟨H0, H1, H2, H3, H4, ⟨%e5, H5⟩, ⟨%e6, H6⟩, HS0, HS1⟩
  iapply Hk
  isplitl [H0]; · iexact H0
  isplitl [H1]; · iexact H1
  isplitl [H2]; · iexact H2
  isplitl [H3]; · iexact H3
  isplitl [H4]; · iexact H4
  isplitl [H5]
  · unfold owns; iexists _; isplitr
    swap; · iexact H5
    ipureintro; exact (View.read_writes_eq_canon _ _ _ (cover2 (F := F) _ _)).trans (later_idx c i arg1 harg1 arg2 harg2 arg3 harg3 arg4 harg4 arg5 harg5 arg6 harg6 arg7 harg7 arg8 harg8 arg9 harg9 x0 x1 x2 x3 x4 xs0 xs1 hc)
  isplitl [H6]
  · unfold owns; iexists _; isplitr
    swap; · iexact H6
    ipureintro; exact (View.read_writes_eq_canon _ _ _ (cover2 (F := F) _ _)).trans (later_wgt c i arg1 harg1 arg2 harg2 arg3 harg3 arg4 harg4 arg5 harg5 arg6 harg6 arg7 harg7 arg8 harg8 arg9 harg9 x0 x1 x2 x3 x4 xs0 xs1 hc)
  isplitl [HS0]; · iexact HS0
  iexact HS1

end Cert.Router

end
-- ==== Proof.Launch.lean ====
/-
  The launch: the proof data of the pipeline (after the body at a point, each input's buffer at its block and each result's at
  the block its tokens give; between points the scratch filled once), the body obligation, and the run.
-/
module

public import proofs.«01_k».proof.Proof.Contents
public import Idealize.ShloMosaic.Lib.Claim

@[expose] public section

set_option maxRecDepth 16384

noncomputable section

namespace Cert.Router

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

attribute [local irreducible] extractAt k0_pay8

variable (m : (ℓ : Loc nD τ sig) → Buf (Elt F) ℓ) (ρ : Dev nD → PrngReg)

/-- The first point of the grid. -/
def pt0 : Fin cfg0.N := ⟨0, Nat.lt_of_lt_of_eq (by decide : (0 : ℕ) < 32) N_0.symm⟩

/-- The body fills the scratch at the first point only. -/
theorem fills_iff (t : Fin cfg0.N) : k0_cond1 (grid0.coords t) = 1#1 ↔ t.val = 0 :=
  (fun t => by
    have ht : t.val < 32 := Nat.lt_of_lt_of_eq t.isLt N_0
    have e0 : (grid0.coords t 0).val = t.val / 1 % 32 := Pipeline.Grid.coords_val t 0 (by decide) rfl
    have h : k0_cond1 (grid0.coords t) = 1#1 ↔ t.val % 32 = 0 := by
      simp only [k0_cond1, e0]
      word_cmp
    rw [h]; omega
   : ∀ t : Fin grid0.N, k0_cond1 (grid0.coords t) = 1#1 ↔ t.val = 0) t

/-- The cluster the first point chooses on core `c`. -/
def pick (c : Dev nD) : BitVec 32 := chosen (iblk m c 0 pt0) (iblk m c 1 pt0) (iblk m c 3 pt0)

/-- What the scratch holds once filled. -/
def scrW (c : Dev nD) (hk : k0_chk1 (grid0.coords pt0) (pick m c)) : Vec F S4096x16 .f32 :=
  weights16 (iblk m c 1 pt0) (iblk m c 2 pt0) (pick m c) (hk.1 ((fills_iff pt0).mpr rfl))
def scrB (c : Dev nD) (hk : k0_chk1 (grid0.coords pt0) (pick m c)) : Vec F S16x1 .f32 :=
  biases16 (iblk m c 3 pt0) (iblk m c 4 pt0) (pick m c) (hk.2 ((fills_iff pt0).mpr rfl))

/-- The windows' current staging memrefs at a point, and their wholeness. -/
abbrev ms0_0 (t : Fin cfg0.N) : Memref sig .tc .vmem S1024x4096 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S4096x8 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S8x4096x8 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x8x1 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S8x8x1 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S2x1024 .i32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S2x1024 .f32 := win0_6.stage (cfg0.slots t 6)
abbrev hs0_6 (t : Fin cfg0.N) : (ms0_6 t).IsWhole := hstage0_6 ((cfg0.slots t 6).cast nbuf0_6)
abbrev scM0_0 : Memref sig .tc .vmem S4096x16 .f32 := Memref.whole cc0_scratch0
abbrev scM0_1 : Memref sig .tc .vmem S16x1 .f32 := Memref.whole cc0_scratch1

/-- The launch's invariant with the scratch as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

variable (hk : ∀ c : Dev nD, k0_chk1 (grid0.coords pt0) (pick m c))

/-- The invariant between points: before the first the launch's; afterwards the scratch filled. -/
def PhiS (c : Dev nD) : ℕ → sProp 𝕄
  | 0 => Pipeline.ΦA spec0 c
  | _ + 1 => iprop(iprop(owns (c : Thread nD τ) scM0_0 fullShare (scrW m c (hk c)) ∗ owns (c : Thread nD τ) scM0_1 fullShare (scrB m c (hk c))) ∗ (∃ r, prngReg c r))

/-- The proof data of the pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => idxBlock (scrW m c (hk c)) (iblk m c 0 t) (scrB m c (hk c))
    | ⟨6, _⟩ => wgtBlock (scrW m c (hk c)) (iblk m c 0 t) (scrB m c (hk c))
  Φ t := PhiS m hk c t.val
  q _ := fullShare
  owed _ := 0

theorem A_eq (c : Dev nD) (w : Fin cfg0.W) : (dats m hk 0 c).A w = V m c (Pipeline.arrRef spec0 w) := by
  dsimp only [dats]

theorem after0_0 (c : Dev nD) (t : Fin cfg0.N) : (dats m hk 0 c).after 0 t = iblk m c 0 t := by unfold dats; rfl
theorem after0_1 (c : Dev nD) (t : Fin cfg0.N) : (dats m hk 0 c).after 1 t = iblk m c 1 t := by unfold dats; rfl
theorem after0_2 (c : Dev nD) (t : Fin cfg0.N) : (dats m hk 0 c).after 2 t = iblk m c 2 t := by unfold dats; rfl
theorem after0_3 (c : Dev nD) (t : Fin cfg0.N) : (dats m hk 0 c).after 3 t = iblk m c 3 t := by unfold dats; rfl
theorem after0_4 (c : Dev nD) (t : Fin cfg0.N) : (dats m hk 0 c).after 4 t = iblk m c 4 t := by unfold dats; rfl
seal idxBlock wgtBlock pick scrW scrB in
theorem after0_5 (c : Dev nD) (t : Fin cfg0.N) : (dats m hk 0 c).after 5 t = idxBlock (scrW m c (hk c)) (iblk m c 0 t) (scrB m c (hk c)) := by unfold dats; rfl
seal idxBlock wgtBlock pick scrW scrB in
theorem after0_6 (c : Dev nD) (t : Fin cfg0.N) : (dats m hk 0 c).after 6 t = wgtBlock (scrW m c (hk c)) (iblk m c 0 t) (scrB m c (hk c)) := by unfold dats; rfl

theorem before0_0 (c : Dev nD) (t : Fin cfg0.N) (d) : (dats m hk 0 c).before 0 t d = iblk m c 0 t := before0_0_of m (dats m hk 0 c) (A_eq m hk c 0) (after0_0 m hk c) t d
theorem before0_1 (c : Dev nD) (t : Fin cfg0.N) (d) : (dats m hk 0 c).before 1 t d = iblk m c 1 t := before0_1_of m (dats m hk 0 c) (A_eq m hk c 1) (after0_1 m hk c) t d
theorem before0_2 (c : Dev nD) (t : Fin cfg0.N) (d) : (dats m hk 0 c).before 2 t d = iblk m c 2 t := before0_2_of m (dats m hk 0 c) (A_eq m hk c 2) (after0_2 m hk c) t d
theorem before0_3 (c : Dev nD) (t : Fin cfg0.N) (d) : (dats m hk 0 c).before 3 t d = iblk m c 3 t := before0_3_of m (dats m hk 0 c) (A_eq m hk c 3) (after0_3 m hk c) t d
theorem before0_4 (c : Dev nD) (t : Fin cfg0.N) (d) : (dats m hk 0 c).before 4 t d = iblk m c 4 t := before0_4_of m (dats m hk 0 c) (A_eq m hk c 4) (after0_4 m hk c) t d

/-- What the obligation hands the body at point `t`, -/
def bodyPre (c : Dev nD) (t : Fin cfg0.N) : sProp 𝕄 :=
  iprop((dats m hk 0 c).Φ t.castSucc ∗ (dats m hk 0 c).owesAt () t.castSucc
    ∗ (∃ d, owns (c : Thread nD τ) (ms0_0 t) fullShare ((dats m hk 0 c).before 0 t d))
    ∗ (∃ d, owns (c : Thread nD τ) (ms0_1 t) fullShare ((dats m hk 0 c).before 1 t d))
    ∗ (∃ d, owns (c : Thread nD τ) (ms0_2 t) fullShare ((dats m hk 0 c).before 2 t d))
    ∗ (∃ d, owns (c : Thread nD τ) (ms0_3 t) fullShare ((dats m hk 0 c).before 3 t d))
    ∗ (∃ d, owns (c : Thread nD τ) (ms0_4 t) fullShare ((dats m hk 0 c).before 4 t d))
    ∗ (∃ d, owns (c : Thread nD τ) (ms0_5 t) fullShare ((dats m hk 0 c).before 5 t d))
    ∗ (∃ d, owns (c : Thread nD τ) (ms0_6 t) fullShare ((dats m hk 0 c).before 6 t d)))

/-- and what it asks back. -/
def bodyPost (c : Dev nD) (t : Fin cfg0.N) : sProp 𝕄 :=
  iprop((dats m hk 0 c).Φ t.succ ∗ (dats m hk 0 c).owesAt () t.succ
    ∗ owns (c : Thread nD τ) (ms0_0 t) fullShare ((dats m hk 0 c).after 0 t)
    ∗ owns (c : Thread nD τ) (ms0_1 t) fullShare ((dats m hk 0 c).after 1 t)
    ∗ owns (c : Thread nD τ) (ms0_2 t) fullShare ((dats m hk 0 c).after 2 t)
    ∗ owns (c : Thread nD τ) (ms0_3 t) fullShare ((dats m hk 0 c).after 3 t)
    ∗ owns (c : Thread nD τ) (ms0_4 t) fullShare ((dats m hk 0 c).after 4 t)
    ∗ owns (c : Thread nD τ) (ms0_5 t) fullShare ((dats m hk 0 c).after 5 t)
    ∗ owns (c : Thread nD τ) (ms0_6 t) fullShare ((dats m hk 0 c).after 6 t))

theorem Phi_succ (c : Dev nD) (t : Fin cfg0.N) : (dats m hk 0 c).Φ t.succ
    = iprop(iprop(owns (c : Thread nD τ) scM0_0 fullShare (scrW m c (hk c)) ∗ owns (c : Thread nD τ) scM0_1 fullShare (scrB m c (hk c))) ∗ (∃ r, prngReg c r)) := rfl

theorem Phi_pos (c : Dev nD) (t : Fin (cfg0.N + 1)) (ht : t.val ≠ 0) : (dats m hk 0 c).Φ t
    = iprop(iprop(owns (c : Thread nD τ) scM0_0 fullShare (scrW m c (hk c)) ∗ owns (c : Thread nD τ) scM0_1 fullShare (scrB m c (hk c))) ∗ (∃ r, prngReg c r)) := by
  show PhiS m hk c t.val = _
  obtain ⟨n, hn⟩ := t
  cases n with
  | zero => exact absurd rfl ht
  | succ n => rfl

theorem Phi_zero (c : Dev nD) (t : Fin (cfg0.N + 1)) (ht : t.val = 0) : (dats m hk 0 c).Φ t = Pipeline.ΦA spec0 c := by
  show PhiS m hk c t.val = _
  rw [ht]; rfl

set_option maxHeartbeats 3200000 in
/-- The body at any point. -/
theorem sound_body (c : Dev nD) (t : Fin cfg0.N) :
    bodyPre m hk c t ⊢ wp frame (wpE (defs₀ (F := F)) Variants.none c none) Set.univ (bodyAt0 t) (fun _ => bodyPost m hk c t) := by
  unfold bodyPre bodyPost bodyAt0
  simp only [before0_0, before0_1, before0_2, before0_3, before0_4]
  rw [show (dats m hk 0 c).owesAt () t.succ = (dats m hk 0 c).owesAt () t.castSucc from rfl,
    after0_0, after0_1, after0_2, after0_3, after0_4, after0_5, after0_6, Phi_succ]
  by_cases hz : t.val = 0
  · obtain rfl : t = pt0 := Fin.ext hz
    rw [Phi_zero m hk c _ (by exact hz), PhiA0_eq]
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩⟩
    iapply (first_body c (grid0.coords pt0) _ _ _ _ _ _ _ _ _ _ _ _ _ _ _ _ _ _ (iblk m c 0 pt0) (iblk m c 1 pt0) (iblk m c 2 pt0) (iblk m c 3 pt0) (iblk m c 4 pt0) ((fills_iff pt0).mpr rfl) (hk c) Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [HS0]; · iexact HS0
    isplitl [HS1]; · iexact HS1
    iintro ⟨H0, H1, H2, H3, H4, H5, H6, HS0, HS1⟩
    isplitl [HS0 HS1 Hg]
    · isplitl [HS0 HS1]
      · isplitl [HS0]
        · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · rw [Phi_pos m hk c _ (by exact hz)]
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩⟩
    iapply (later_body c (grid0.coords t) _ _ _ _ _ _ _ _ _ _ _ _ _ _ _ _ _ _ (iblk m c 0 t) (iblk m c 1 t) (iblk m c 2 t) (iblk m c 3 t) (iblk m c 4 t) (scrW m c (hk c)) (scrB m c (hk c)) (fun h => hz ((fills_iff t).mp h)) Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [HS0]; · iexact HS0
    isplitl [HS1]; · iexact HS1
    iintro ⟨H0, H1, H2, H3, H4, H5, H6, HS0, HS1⟩
    isplitl [HS0 HS1 Hg]
    · isplitl [HS0 HS1]
      · isplitl [HS0]
        · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m hk 0 c) (defs₀ (F := F)) Variants.none () Set.univ := fun t => by
  rw [bigSep_W0, bigSep_W0, defs₀_row]
  exact triple_restated (sound_body m hk c t) rfl .rfl fun _ => .rfl

theorem hin (c : Dev nD) : Pipeline.ΦA spec0 c ⊢ (dats m hk 0 c).Φ 0 := by
  rw [Phi_zero m hk c 0 rfl]
  try exact Idealize.SL.BI.Entails.refl _

/-- After the last point the scratch's contents are forgotten. -/
theorem hout (c : Dev nD) : (dats m hk 0 c).Φ (Fin.last cfg0.N) ⊢ Pipeline.ΦA spec0 c := by
  rw [Phi_pos m hk c _ (by rw [Fin.val_last]; have : cfg0.N = 32 := N_0; omega), PhiA0_eq]
  iintro ⟨⟨HS0, HS1⟩, Hg⟩
  isplitl [HS0 HS1]
  · isplitl [HS0]
    · iexists _; iexact HS0
    iexists _; iexact HS1
  iexact Hg

-- the implicit arguments are found by unifying the conclusions, which takes unfolding plain definitions in a type
set_option backward.isDefEq.respectTransparency.types false in
set_option maxHeartbeats 800000 in
/-- The run: every array of the pipeline ends at what the proof data give, every other buffer as the later host lines leave
    it, and every counter at zero. -/
theorem run_quiescent : θ_run defs (onTc (τ := τ) (main (F := F))) (s₀ m ρ) (fun r => (Pipeline.FramePost cfgs (dats m hk) 0 (Pipeline.afterTail₀ cfgs (dats m hk) 0 (V0 m) [hostOps1])) r ∧ r.2.sem = fun _ => 0) :=
  Pipeline.θ_run_frame_around_track (Q' := _) cfgs (dats m hk) (0 : Fin 1) launch0 defs₀ Variants.none m ρ main
    (hbody := fun c => (body_obligation m hk c).loose) (hshare := fun c => (dats m hk 0 c).share_full fun _ => rfl)
    (howed := fun _ _ => rfl) (V₀ := V0 m) (opss := [hostOps1]) (hsub := sfx_sub) (hfresh := sfx_fresh) (hkeep := sfx_keeps)
    (hmain := hmain m Variants.none) (hA := A_eq m hk) (hin := hin m hk) (hout := hout m hk)

include hk in
/-- The arguments end unchanged and the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m hk) (A_eq m hk) ((θ_run defs _ _).mono (fun _ h => h.1) (run_quiescent m ρ hk)))
    ((θ_run defs _ _).mono (fun _ h => h.2) (run_quiescent m ρ hk))

end Cert.Router

end
-- ==== Proof.HostLines.lean ====
/-
  The host lines around the launch: what the arrays of the launch hold, entry by entry, of the arguments, and what the later lines
  leave of the launch's two results.
-/
module

public import proofs.«01_k».proof.Proof.Launch
public import Idealize.ShloMosaic.Lib.Pipeline.ValueKit
public import Idealize.ShloMosaic.Lib.StableHlo.RunClose
public import Idealize.ShloMosaic.Lib.Pointwise

@[expose] public section

noncomputable section

namespace Cert.Router

open Cert.KernelIdeal Cert.KernelIdeal.Gen
open Idealize.ShloMosaic Idealize.ShloMosaic.TcCoe Idealize.SL.Sem Idealize.ShloMosaic.StableHlo

variable {F : FTy → Type} [FloatOps F]
variable (m : (ℓ : Loc nD τ sig) → Buf (Elt F) ℓ) (c : Dev nD)

abbrev argX : Vec F S32768x4096 .f32 := m ((c : Thread nD τ).loc main_arg0)
abbrev argCW : Vec F S8x4096 .f32 := m ((c : Thread nD τ).loc main_arg1)
abbrev argCB : Vec F S8 .f32 := m ((c : Thread nD τ).loc main_arg2)
abbrev argEW : Vec F S8x8x4096 .f32 := m ((c : Thread nD τ).loc main_arg3)
abbrev argEB : Vec F S8x8 .f32 := m ((c : Thread nD τ).loc main_arg4)

theorem V_v0 : V m c main_call0_v0 = (transpose S4096x8 [1, 0] (argCW m c) transposes_S8x4096_S4096x8_1_0 : Vec F S4096x8 .f32) := by
  unfold V V0 argCW
  simp only [List.flatten_cons, List.flatten_nil, List.append_nil]
  after_results_simp
  rfl
theorem V_v1 : V m c main_call0_v1 = (transpose S8x4096x8 [0, 2, 1] (argEW m c) transposes_S8x8x4096_S8x4096x8_0_2_1 : Vec F S8x4096x8 .f32) := by
  unfold V V0 argEW
  simp only [List.flatten_cons, List.flatten_nil, List.append_nil]
  after_results_simp
  rfl
theorem V_v2 : V m c main_call0_v2 = (shapeCast S1x8x1 (argCB m c) shapeCasts_S8_S1x8x1 : Vec F S1x8x1 .f32) := by
  unfold V V0 argCB
  simp only [List.flatten_cons, List.flatten_nil, List.append_nil]
  after_results_simp
  rfl
theorem V_v3 : V m c main_call0_v3 = (shapeCast S8x8x1 (argEB m c) shapeCasts_S8x8_S8x8x1 : Vec F S8x8x1 .f32) := by
  unfold V V0 argEB
  simp only [List.flatten_cons, List.flatten_nil, List.append_nil]
  after_results_simp
  rfl

variable (dd : (p : Fin 1) → (c : Dev nD) → Pipeline.Dat τ (Elt F) Unit ℕ (UR sig nD τ) ℕ (cfgs p) c)

theorem arrs_inj : Function.Injective (Pipeline.arrRef spec0) := by decide

theorem W_v0_0 : Pipeline.afterTail₀ cfgs dd 0 (V0 m) [hostOps1] c main_v0_0
    = (transpose S32768x2 [1, 0] ((dd 0 c).arrAt 5 cfg0.N : Vec F S2x32768 .i32) transposes_S2x32768_S32768x2_1_0 : Vec F S32768x2 .i32) := by
  unfold Pipeline.afterTail₀
  simp only [List.flatten_cons, List.flatten_nil, List.append_nil]
  after_results_simp
  exact congrArg (fun z : Vec F S2x32768 .i32 => transpose S32768x2 [1, 0] z transposes_S2x32768_S32768x2_1_0)
    (Pipeline.withArrays_arr spec0 arrs_inj c (V0 m c) (fun w => (dd 0 c).arrAt w cfg0.N) 5)
theorem W_v0_1 : Pipeline.afterTail₀ cfgs dd 0 (V0 m) [hostOps1] c main_v0_1
    = (transpose S32768x2 [1, 0] ((dd 0 c).arrAt 6 cfg0.N : Vec F S2x32768 .f32) transposes_S2x32768_S32768x2_1_0 : Vec F S32768x2 .f32) := by
  unfold Pipeline.afterTail₀
  simp only [List.flatten_cons, List.flatten_nil, List.append_nil]
  after_results_simp
  exact congrArg (fun z : Vec F S2x32768 .f32 => transpose S32768x2 [1, 0] z transposes_S2x32768_S32768x2_1_0)
    (Pipeline.withArrays_arr spec0 arrs_inj c (V0 m c) (fun w => (dd 0 c).arrAt w cfg0.N) 6)

/-! ## The launch's blocks -/

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, 0, 0] := (by decide +kernel : ∀ t : Fin grid0.N, _)
theorem idx3 : ∀ t : Fin cfg0.N, win0_3.index t = ![0, 0, 0] := (by decide +kernel : ∀ t : Fin grid0.N, _)
theorem idx4 : ∀ t : Fin cfg0.N, win0_4.index t = ![0, 0, 0] := (by decide +kernel : ∀ t : Fin grid0.N, _)
theorem idx5 : ∀ t : Fin cfg0.N, win0_5.index t = ![0, t.val] := (by decide +kernel : ∀ t : Fin grid0.N, _)
theorem idx6 : ∀ t : Fin cfg0.N, win0_6.index t = ![0, t.val] := (by decide +kernel : ∀ t : Fin grid0.N, _)

/-- The token at place `j` of the block of point `t`. -/
def tok (t : Fin cfg0.N) (j : Fin 1024) : Fin 32768 := ⟨t.val * 1024 + j.val, by have : t.val < 32 := Nat.lt_of_lt_of_eq t.isLt N_0; omega⟩

theorem blk_x (t : Fin cfg0.N) (j : Fin 1024) (d : Fin 4096) : iblk m c 0 t (ix2 j d) = argX m c (ix2 (tok t j) d) := by
  show V m c main_arg0 (((cfg0.win 0).blk t).view.emb (ix2 j d)) = _
  rw [V_main_arg0]
  refine congrArg (m ((c : Thread nD τ).loc main_arg0)) ?_
  blk_ext [idx0]
  rfl
theorem blk_cw (t : Fin cfg0.N) (d : Fin 4096) (k : Fin 8) : iblk m c 1 t (ix2 d k) = argCW m c (ix2 k d) := by
  show V m c main_call0_v0 (((cfg0.win 1).blk t).view.emb (ix2 d k)) = _
  rw [show ((cfg0.win 1).blk t).view.emb (ix2 d k) = ix2 d k from by blk_ext [idx1], V_v0]
  pointwise []
theorem blk_ew (t : Fin cfg0.N) (a : Fin 8) (d : Fin 4096) (k : Fin 8) : iblk m c 2 t (ix3 a d k) = argEW m c (ix3 a k d) := by
  show V m c main_call0_v1 (((cfg0.win 2).blk t).view.emb (ix3 a d k)) = _
  rw [show ((cfg0.win 2).blk t).view.emb (ix3 a d k) = ix3 a d k from by blk_ext [idx2], V_v1]
  pointwise []
theorem blk_cb (t : Fin cfg0.N) (k : Fin 8) : iblk m c 3 t (ix3 0 k 0) = argCB m c (ix1 k) := by
  show V m c main_call0_v2 (((cfg0.win 3).blk t).view.emb (ix3 0 k 0)) = _
  rw [show ((cfg0.win 3).blk t).view.emb (ix3 0 k 0) = ix3 0 k 0 from by blk_ext [idx3], V_v2]
  pointwise []
theorem blk_eb (t : Fin cfg0.N) (a k : Fin 8) : iblk m c 4 t (ix3 a k 0) = argEB m c (ix2 a k) := by
  show V m c main_call0_v3 (((cfg0.win 4).blk t).view.emb (ix3 a k 0)) = _
  rw [show ((cfg0.win 4).blk t).view.emb (ix3 a k 0) = ix3 a k 0 from by blk_ext [idx4], V_v3]
  pointwise []

end Cert.Router

end
-- ==== Proof.Rows.lean ====
/-
  Eight extended reals: their greatest, the first place where it stands, the second greatest, and the same of their softmax.
-/
module

public import Idealize.ShloMosaic.PureOps
public import Idealize.ShloMosaic.PureOps.Ideal.Laws
public import Idealize.ShloMosaic.Lib.SortPrefix

@[expose] public section

noncomputable section

namespace Cert.Router

open Idealize.ShloMosaic

/-- The greatest of eight, -/
def top (L : Fin 8 → EReal) : EReal := Finset.univ.fold max ⊥ L

theorem le_top (L : Fin 8 → EReal) (k : Fin 8) : L k ≤ top L :=
  (Finset.le_fold_max _).mpr (Or.inr ⟨k, Finset.mem_univ k, le_refl _⟩)

theorem exists_top (L : Fin 8 → EReal) : ∃ k, L k = top L := by
  have h : top L ≤ top L := le_refl _
  rcases (Finset.le_fold_max (s := Finset.univ) (f := L) (b := ⊥) (top L)).mp h with h | ⟨k, _, hk⟩
  · refine ⟨0, ?_⟩
    have e := le_antisymm h bot_le
    have := le_top L 0
    rw [e] at this ⊢
    exact le_antisymm this bot_le
  · exact ⟨k, le_antisymm (le_top L k) hk⟩

theorem exists_pick (L : Fin 8 → EReal) : ∃ k, L k = top L ∧ ∀ j < k, L j ≠ top L := by
  classical
  obtain ⟨k, hk, hmin⟩ := WellFounded.has_min (wellFounded_lt (α := Fin 8)) {k | L k = top L} (exists_top L)
  exact ⟨k, hk, fun j hj h => hmin j h hj⟩

/-- and the first place where it stands. -/
def pick8 (L : Fin 8 → EReal) : Fin 8 := (exists_pick L).choose
theorem pick8_top (L : Fin 8 → EReal) : L (pick8 L) = top L := (exists_pick L).choose_spec.1
theorem pick8_first (L : Fin 8 → EReal) (j : Fin 8) (h : j < pick8 L) : L j ≠ top L := (exists_pick L).choose_spec.2 j h

theorem pick8_eq {L : Fin 8 → EReal} {k : Fin 8} (hk : L k = top L) (hl : ∀ j < k, L j ≠ top L) : pick8 L = k := by
  rcases lt_trichotomy (pick8 L) k with h | h | h
  · exact absurd (pick8_top L) (hl _ h)
  · exact h
  · exact absurd hk (pick8_first L _ h)

/-- The least place where a predicate holds, as a minimum of words. -/
theorem least_bool : ∀ (q : Fin 8 → Bool) (k : Fin 8), q k = true → (∀ j < k, q j = false) →
    Finset.univ.fold IntOp.minsi 2147483647#32 (fun k : Fin 8 => if q k = true then BitVec.ofNat 32 k.val else 8#32) = BitVec.ofNat 32 k.val := by
  decide +kernel

theorem least_word (L : Fin 8 → EReal) [D : DecidablePred fun k => L k = top L] :
    Finset.univ.fold IntOp.minsi 2147483647#32 (fun k : Fin 8 => if L k = top L then BitVec.ofNat 32 k.val else 8#32) = BitVec.ofNat 32 (pick8 L).val := by
  have h := least_bool (fun k => decide (L k = top L)) (pick8 L) (decide_eq_true (pick8_top L)) (fun j hj => decide_eq_false (pick8_first L j hj))
  simpa only [decide_eq_true_eq] using h

/-- The eight without the first greatest, -/
def rest (L : Fin 8 → EReal) : Fin 8 → EReal := fun k => if k = pick8 L then ⊥ else L k
/-- whose own greatest stands at the second place. -/
def second (L : Fin 8 → EReal) : Fin 8 := pick8 (rest L)

/-! ## Finite rows -/

theorem second_ne (l : Fin 8 → ℝ) : second (fun k => (l k : EReal)) ≠ pick8 (fun k => (l k : EReal)) := by
  intro h
  have e := pick8_top (rest fun k => (l k : EReal))
  rw [show pick8 (rest fun k => (l k : EReal)) = _ from h] at e
  have hb : rest (fun k => (l k : EReal)) (pick8 fun k => (l k : EReal)) = ⊥ := if_pos rfl
  rw [hb] at e
  obtain ⟨j, hj⟩ : ∃ j : Fin 8, j ≠ pick8 fun k => (l k : EReal) := exists_ne _
  have := le_top (rest fun k => (l k : EReal)) j
  rw [← e, rest, if_neg hj] at this
  exact absurd (le_antisymm this bot_le) (EReal.coe_ne_bot _)

theorem rest_second (l : Fin 8 → ℝ) : top (rest fun k => (l k : EReal)) = (l (second fun k => (l k : EReal)) : EReal) := by
  rw [← pick8_top]
  exact if_neg (second_ne l)

/-- The first choice: none is greater, and those before it are less. -/
theorem pick8_le (l : Fin 8 → ℝ) (k : Fin 8) : l k ≤ l (pick8 fun k => (l k : EReal)) := by
  have := le_top (fun k => (l k : EReal)) k
  rw [← pick8_top] at this
  exact EReal.coe_le_coe_iff.mp this
theorem pick8_lt (l : Fin 8 → ℝ) (k : Fin 8) (h : k < pick8 fun k => (l k : EReal)) : l k < l (pick8 fun k => (l k : EReal)) := by
  refine lt_of_le_of_ne (pick8_le l k) fun e => pick8_first (fun k => (l k : EReal)) k h ?_
  rw [← pick8_top]
  exact congrArg _ e
/-- The second choice likewise, among the others. -/
theorem second_le (l : Fin 8 → ℝ) (k : Fin 8) (hk : k ≠ pick8 fun k => (l k : EReal)) : l k ≤ l (second fun k => (l k : EReal)) := by
  have := le_top (rest fun k => (l k : EReal)) k
  rw [rest_second, rest, if_neg hk] at this
  exact EReal.coe_le_coe_iff.mp this
theorem second_lt (l : Fin 8 → ℝ) (k : Fin 8) (hk : k ≠ pick8 fun k => (l k : EReal)) (h : k < second fun k => (l k : EReal)) :
    l k < l (second fun k => (l k : EReal)) := by
  refine lt_of_le_of_ne (second_le l k hk) fun e => pick8_first (rest fun k => (l k : EReal)) k h ?_
  rw [rest_second, rest, if_neg hk]
  exact congrArg _ e

/-! ## The stable sort of a finite row -/

/-- A stable sort of a list of increasing positions may break its ties by position. -/
theorem stableSort_ties {n : Nat} (B E : Fin n → Fin n → Bool) (l : List (Fin n)) (hl : l.Pairwise (· < ·)) :
    stableSort B l = stableSort (fun a b => B a b || (E a b && decide (a < b))) l := by
  induction l with
  | nil => rfl
  | cons a l ih =>
    rw [List.pairwise_cons] at hl
    unfold stableSort
    rw [ih hl.2]
    refine insertBefore_congr _ _ a _ fun b hb => ?_
    have hab := hl.1 b ((perm_stableSort _ l).mem_iff.mp hb)
    simp [not_lt.mpr hab.le]

/-- Greater first, equal ones by position. -/
def before8 (p : Fin 8 → ℝ) (a b : Fin 8) : Bool := decide (p b < p a) || (decide (p a = p b) && decide (a < b))

theorem sortedFrom_ties (p : Fin 8 → ℝ) : sortedFrom (fun a b => decide (p b < p a)) = sortedFrom (before8 p) := by
  funext k
  unfold sortedFrom
  rw [List.get_of_eq (show sortPositions 8 (fun a b => decide (p b < p a)) = sortPositions 8 (before8 p) from
    stableSort_ties _ (fun a b => decide (p a = p b)) _ (List.pairwise_lt_finRange 8))]
  rfl

theorem before8_strict (p : Fin 8 → ℝ) : StrictTotalBefore (before8 p) :=
  StrictTotalBefore.of_key_then_position (κ := ℝ) (fun x y => decide (y < x)) p (by simp)
    (by intro a b c hab hbc; simp only [decide_eq_true_eq] at *; exact hbc.trans hab)
    (by intro a b; simp only [decide_eq_true_eq]; rcases lt_trichotomy a b with h | h | h
        · exact Or.inr (Or.inr h)
        · exact Or.inr (Or.inl h)
        · exact Or.inl h)

/-- The two choices of a row, in order. -/
def two (l : Fin 8 → ℝ) : Fin 2 → Fin 8 := ![pick8 fun k => (l k : EReal), second fun k => (l k : EReal)]

theorem before8_pick (l p : Fin 8 → ℝ) (hm : ∀ a b, p a < p b ↔ l a < l b) (k : Fin 8) : before8 p k (pick8 fun k => (l k : EReal)) = false := by
  have h1 : ¬ p (pick8 fun k => (l k : EReal)) < p k := by rw [hm]; exact not_lt.mpr (pick8_le l k)
  unfold before8
  rw [decide_eq_false h1, Bool.false_or, Bool.and_eq_false_iff]
  by_cases h : k < pick8 fun k => (l k : EReal)
  · exact Or.inl (decide_eq_false (ne_of_lt ((hm _ _).mpr (pick8_lt l k h))))
  · exact Or.inr (decide_eq_false h)

theorem before8_second (l p : Fin 8 → ℝ) (hm : ∀ a b, p a < p b ↔ l a < l b) (k : Fin 8) (hk : k ≠ pick8 fun k => (l k : EReal)) :
    before8 p k (second fun k => (l k : EReal)) = false := by
  have h1 : ¬ p (second fun k => (l k : EReal)) < p k := by rw [hm]; exact not_lt.mpr (second_le l k hk)
  unfold before8
  rw [decide_eq_false h1, Bool.false_or, Bool.and_eq_false_iff]
  by_cases h : k < second fun k => (l k : EReal)
  · exact Or.inl (decide_eq_false (ne_of_lt ((hm _ _).mpr (second_lt l k hk h))))
  · exact Or.inr (decide_eq_false h)

/-- A stable sort, greater first, of values ordered as the row puts the two choices in front. -/
theorem sorted_two (l p : Fin 8 → ℝ) (hm : ∀ a b, p a < p b ↔ l a < l b) (r : Fin 2) :
    sortedFrom (fun a b => decide (p b < p a)) (r.castLE (by decide)) = two l r := by
  rw [sortedFrom_ties]
  refine (before8_strict p).sortedFrom_eq_of_prefix (k := 2) (by decide) (two l) ?_ ?_ ?_ r
  · intro a b h
    fin_cases a <;> fin_cases b <;> first | rfl | exact absurd h (second_ne l) | exact absurd h.symm (second_ne l)
  · intro a b h
    fin_cases a <;> fin_cases b <;> first | exact absurd h (by decide) | exact before8_pick l p hm _
  · intro a q h
    fin_cases a
    · exact before8_pick l p hm q
    · exact before8_second l p hm q fun e => h 0 e.symm

theorem sorted_one (l p : Fin 8 → ℝ) (hm : ∀ a b, p a < p b ↔ l a < l b) :
    sortedFrom (fun a b => decide (p b < p a)) 0 = pick8 fun k => (l k : EReal) := sorted_two l p hm 0

end Cert.Router

end
-- ==== Proof.Tokens.lean ====
/-
  What one step of the kernel computes at a token: from the token's two rows of logits, the places of the greatest ones and the
  weights.
-/
module

public import proofs.«01_k».proof.Proof.Rows
public import proofs.«01_k».proof.Proof.Contents
public import Idealize.ShloMosaic.Lib.Pointwise

@[expose] public section

noncomputable section

namespace Cert.Router

open Cert.KernelIdeal Cert.KernelIdeal.Gen
open Idealize.ShloMosaic

theorem ofBits_neg_inf : Ideal.ofBits FTy.f32 4286578688#32 = ⊥ := by simp [Ideal.ofBits, Ideal.ieee]

/-- The sum of the exponentials of a row less its greatest entry. -/
def den (L : Fin 8 → EReal) : EReal := ∑ k, Ideal.exp (L k - top L)

variable (w : Vec Ideal S4096x16 .f32) (x : Vec Ideal S1024x4096 .f32) (b : Vec Ideal S16x1 .f32)

/-- A token's logits for the clusters and for the experts. -/
def cRow (j : Fin 1024) : Fin 8 → EReal := fun k => k0_pay15 w x b (ix2 k j)
def eRow (j : Fin 1024) : Fin 8 → EReal := fun k => k0_pay16 w x b (ix2 k j)

theorem cRow_apply (j : Fin 1024) (k : Fin 8) :
    cRow w x b j k = ∑ d : Fin 4096, w (ix2 d ⟨k.val, by omega⟩) * x (ix2 j d) + b (ix2 ⟨k.val, by omega⟩ 0) := by
  unfold cRow
  pointwise [k0_pay15, k0_pay14]
theorem eRow_apply (j : Fin 1024) (k : Fin 8) :
    eRow w x b j k = ∑ d : Fin 4096, w (ix2 d ⟨8 + k.val, by omega⟩) * x (ix2 j d) + b (ix2 ⟨8 + k.val, by omega⟩ 0) := by
  unfold eRow
  pointwise [k0_pay16, k0_pay14]

theorem pay17_at (j : Fin 1024) : k0_pay17 w x b (ix2 0 j) = top (cRow w x b j) := by
  pointwise [k0_pay17]
  rw [ofBits_neg_inf]
  rfl
theorem pay20_at (j : Fin 1024) : k0_pay20 w x b (ix2 0 j) = top (eRow w x b j) := by
  pointwise [k0_pay20]
  rw [ofBits_neg_inf]
  rfl
theorem pay18_at (j : Fin 1024) : k0_pay18 w x b (ix2 0 j) = BitVec.ofNat 32 (pick8 (cRow w x b j)).val := by
  pointwise [k0_pay18]
  rw [pay17_at]
  exact least_word (cRow w x b j)
theorem pay21_at (j : Fin 1024) : k0_pay21 w x b (ix2 0 j) = BitVec.ofNat 32 (pick8 (eRow w x b j)).val := by
  pointwise [k0_pay21]
  rw [pay20_at]
  exact least_word (eRow w x b j)
theorem pay19_at (j : Fin 1024) : k0_pay19 w x b (ix2 0 j) = Ideal.div 1 (den (cRow w x b j)) := by
  pointwise [k0_pay19]
  rw [pay17_at]
  rfl
theorem pay22_at (j : Fin 1024) : k0_pay22 w x b (ix2 0 j) = den (eRow w x b j) := by
  pointwise [k0_pay22]
  rw [pay20_at]
  rfl

/-- A row with the first greatest entry masked, as a select over the words of the places. -/
theorem masked (L : Fin 8 → EReal) (k : Fin 8) :
    Scalar.select (IntOp.cmpi CmpIPredicate.eq (BitVec.ofNat 32 k.val) (BitVec.ofNat 32 (pick8 L).val)) (Ideal.ofBits FTy.f32 4286578688#32) (L k) = rest L k := by
  have h : ∀ a c : Fin 8, IntOp.cmpi CmpIPredicate.eq (BitVec.ofNat 32 a.val) (BitVec.ofNat 32 c.val) = if a = c then 1#1 else 0#1 := by decide
  rw [h, ofBits_neg_inf]
  unfold rest
  split <;> rfl

theorem pay4_at (ci e1 : IVec S1x1024 32) (j : Fin 1024) : k0_pay4 ci e1 (ix2 0 j) = IntOp.addi (IntOp.muli (ci (ix2 0 j)) 8#32) (e1 (ix2 0 j)) := by
  pointwise [k0_pay4, k0_pay3]

theorem pay5_at (j : Fin 1024) : k0_pay5 (k0_pay16 w x b) (iota .tc S8x1024 32 [0] iota_S8x1024_d0_w32) (k0_pay18 w x b) (k0_pay21 w x b) (ix2 0 j)
    = IntOp.addi (IntOp.muli (BitVec.ofNat 32 (pick8 (cRow w x b j)).val) 8#32) (BitVec.ofNat 32 (second (eRow w x b j)).val) := by
  pointwise [k0_pay5, k0_pay2, k0_pay1, k0_pay3]
  rw [pay18_at, pay21_at]
  simp only [show ∀ k : Fin 8, k0_pay16 w x b (ix2 k j) = eRow w x b j k from fun _ => rfl, masked]
  rw [ofBits_neg_inf]
  exact congrArg _ (least_word (rest (eRow w x b j)))

theorem pay6_at (a c : FVec Ideal S1x1024 .f32) (j : Fin 1024) : k0_pay6 a c (ix2 0 j) = Ideal.div (a (ix2 0 j)) (c (ix2 0 j)) := by
  pointwise [k0_pay6]

theorem pay7_at (j : Fin 1024) : k0_pay7 (k0_pay16 w x b) (iota .tc S8x1024 32 [0] iota_S8x1024_d0_w32) (k0_pay19 w x b) (k0_pay20 w x b) (k0_pay21 w x b) (k0_pay22 w x b) (ix2 0 j)
    = Ideal.div (Ideal.div 1 (den (cRow w x b j)) * Ideal.exp (top (rest (eRow w x b j)) - top (eRow w x b j))) (den (eRow w x b j)) := by
  pointwise [k0_pay7, k0_pay2, k0_pay1]
  rw [pay19_at, pay20_at, pay21_at, pay22_at]
  simp only [show ∀ k : Fin 8, k0_pay16 w x b (ix2 k j) = eRow w x b j k from fun _ => rfl, masked]
  rw [ofBits_neg_inf]
  rfl

/-- The word of a choice: the cluster times eight plus the expert. -/
def wordOf (c e : Fin 8) : BitVec 32 := IntOp.addi (IntOp.muli (BitVec.ofNat 32 c.val) 8#32) (BitVec.ofNat 32 e.val)

/-! ## The cluster that the first step picks -/

/-- The logits of the first token, as the first step computes them. -/
def firstRow (a : Vec Ideal S1x4096 .f32) (c : Vec Ideal S4096x8 .f32) (d : Vec Ideal S1x8x1 .f32) : Fin 8 → EReal :=
  fun k => ∑ i : Fin 4096, c (ix2 i k) * a (ix2 0 i) + d (ix3 0 k 0)

theorem fold_pairs {β : Type} (op : β → β → β) [Std.Commutative op] [Std.Associative op] (init : β) (f : Fin 8 × Fin 1 → β) :
    Finset.univ.fold op init f = Finset.univ.fold op init fun k : Fin 8 => f (k, 0) := by
  have : (Finset.univ : Finset (Fin 8 × Fin 1)) = Finset.univ.map ⟨fun k : Fin 8 => (k, (0 : Fin 1)), fun a b h => (Prod.mk.inj h).1⟩ := by
    ext ⟨k, i⟩
    simp only [Finset.mem_univ, Finset.mem_map, Function.Embedding.coeFn_mk, true_and, true_iff]
    exact ⟨k, Prod.ext rfl (Subsingleton.elim _ _)⟩
  rw [this, Finset.fold_map]
  rfl

theorem pay8_at (a : Vec Ideal S1x4096 .f32) (c : Vec Ideal S4096x8 .f32) (d : Vec Ideal S1x8x1 .f32) :
    k0_pay8 a c d (ix3 0 0 0) = BitVec.ofNat 32 (pick8 (firstRow a c d)).val := by
  pointwise [k0_pay8]
  rw [fold_pairs]
  simp only [fold_pairs]
  rw [ofBits_neg_inf]
  exact least_word (firstRow a c d)

end Cert.Router

end
-- ==== Proof.Picks.lean ====
/-
  The kernel at ideal values: the cluster the first step picks is below eight (so the loads of its experts' rows are in bounds,
  and the run ends well), what the scratch holds, and each step's two blocks of results in the tokens' logits.
-/
module

public import proofs.«01_k».proof.Proof.HostLines
public import proofs.«01_k».proof.Proof.Tokens

@[expose] public section

noncomputable section

namespace Cert.Router

open Cert.KernelIdeal Cert.KernelIdeal.Gen
open Idealize.ShloMosaic Idealize.ShloMosaic.TcCoe Idealize.SL.Sem

/-! ## Two pieces of a buffer -/

section Pieces

variable {Val : EltTy → Type} [∀ e, Nonempty (Val e)] {s : Shape} {e : EltTy}

theorem first_piece (r r' : Rect s) (w : r.shape.Idx → Val e) (w' : r'.shape.Idx → Val e) (y : s.Idx) (x : r.shape.Idx)
    (h : ∀ a, (y a).val = (r.emb x a).val) : View.canon [⟨r, w⟩, ⟨r', w'⟩] y = w x := by
  rw [show y = r.emb x from funext fun a => Fin.ext (h a)]
  exact View.canon_cons_emb r w _ x

theorem second_piece (r r' : Rect s) (w : r.shape.Idx → Val e) (w' : r'.shape.Idx → Val e) (y : s.Idx) (x : r'.shape.Idx)
    (h : ∀ a, (y a).val = (r'.emb x a).val) (a : Fin s.rank) (hn : ∀ z, (y a).val ≠ (r.emb z a).val) :
    View.canon [⟨r, w⟩, ⟨r', w'⟩] y = w' x := by
  rw [View.canon_cons_of_not_mem _ _ (fun hm => by
    obtain ⟨z, hz⟩ := r.exists_idx_of_mem hm
    exact hn z (congrArg (fun i : s.Idx => (i a).val) hz.symm))]
  rw [show y = r'.emb x from funext fun a => Fin.ext (h a)]
  exact View.canon_cons_emb r' w' _ x

end Pieces

section Blocks

variable (w : Vec Ideal S4096x16 .f32) (x : Vec Ideal S1024x4096 .f32) (b : Vec Ideal S16x1 .f32)

theorem idxBlock_0 (j : Fin 1024) : idxBlock w x b (ix2 0 j) = wordOf (pick8 (cRow w x b j)) (pick8 (eRow w x b j)) := by
  unfold idxBlock
  rw [second_piece _ _ _ _ (ix2 0 j) (ix2 0 j) (by intro a; fin_cases a <;> show _ = _ + 1 * _ <;> simp [ix2]) 0
    (by intro z; show (0 : ℕ) ≠ 1 + 1 * _; omega), pay4_at, pay18_at, pay21_at]
  rfl
theorem idxBlock_1 (j : Fin 1024) : idxBlock w x b (ix2 1 j) = wordOf (pick8 (cRow w x b j)) (second (eRow w x b j)) := by
  unfold idxBlock
  rw [first_piece _ _ _ _ (ix2 1 j) (ix2 0 j) (by intro a; fin_cases a <;> show _ = _ + 1 * _ <;> simp [ix2]), pay5_at]
  rfl
theorem wgtBlock_0 (j : Fin 1024) : wgtBlock w x b (ix2 0 j) = Ideal.div (Ideal.div 1 (den (cRow w x b j))) (den (eRow w x b j)) := by
  unfold wgtBlock
  rw [second_piece _ _ _ _ (ix2 0 j) (ix2 0 j) (by intro a; fin_cases a <;> show _ = _ + 1 * _ <;> simp [ix2]) 0
    (by intro z; show (0 : ℕ) ≠ 1 + 1 * _; omega), pay6_at, pay19_at, pay22_at]
theorem wgtBlock_1 (j : Fin 1024) : wgtBlock w x b (ix2 1 j)
    = Ideal.div (Ideal.div 1 (den (cRow w x b j)) * Ideal.exp (top (rest (eRow w x b j)) - top (eRow w x b j))) (den (eRow w x b j)) := by
  unfold wgtBlock
  rw [first_piece _ _ _ _ (ix2 1 j) (ix2 0 j) (by intro a; fin_cases a <;> show _ = _ + 1 * _ <;> simp [ix2]), pay7_at]

end Blocks

variable (m : (ℓ : Loc nD τ sig) → Buf (Elt Ideal) ℓ) (c : Dev nD)

/-- A token's logits for the clusters, and for the experts of cluster `a`. -/
def cLogit (t : Fin 32768) : Fin 8 → EReal := fun k => ∑ d : Fin 4096, argCW m c (ix2 k d) * argX m c (ix2 t d) + argCB m c (ix1 k)
def eLogit (a : Fin 8) (t : Fin 32768) : Fin 8 → EReal := fun k => ∑ d : Fin 4096, argEW m c (ix3 a k d) * argX m c (ix2 t d) + argEB m c (ix2 a k)

/-- The first token's cluster. -/
def zeroth : Fin 8 := pick8 (cLogit m c 0)

theorem pick_eq : pick m c = BitVec.ofNat 32 (zeroth m c).val := by
  unfold pick chosen
  show k0_pay8 _ _ _ (fun a => _) = _
  rw [show (fun a : Fin 3 => (⟨(![0, 0, 0] : Fin 3 → ℕ) a, _⟩ : Fin (S1x1x1.size a))) = ix3 0 0 0 from by funext a; fin_cases a <;> rfl, pay8_at]
  refine congrArg (fun L => BitVec.ofNat 32 (pick8 L).val) (funext fun k => ?_)
  unfold firstRow cLogit
  rw [blk_cb]
  refine congrArg (· + argCB m c (ix1 k)) (Finset.sum_congr rfl fun d _ => ?_)
  rw [blk_cw]
  refine congrArg (argCW m c (ix2 k d) * ·) ?_
  have e : View.ld (iblk m c 0 pt0) (Rect.unit (s := S1024x4096) ![0, 0] S1x4096.size inb_S1024x4096_S1x4096_0_0) (ix2 0 d) = iblk m c 0 pt0 (ix2 0 d) :=
    congrArg (iblk m c 0 pt0) (funext fun a => Fin.ext (by fin_cases a <;> show _ + 1 * _ = _ <;> simp [ix2]))
  rw [e, blk_x]
  refine congrArg (fun t => argX m c (ix2 t d)) (Fin.ext ?_)
  simp [tok, pt0]

/-- So the loads of its experts' rows are in bounds. -/
theorem chk_of (a : Fin 8) (i : grid0.Coords) : k0_chk1 i (BitVec.ofNat 32 a.val) := by
  refine ⟨fun _ => ?_, fun _ => ?_⟩ <;> revert a <;> decide
theorem hk (c : Dev nD) : k0_chk1 (grid0.coords pt0) (pick m c) := by
  rw [pick_eq]
  exact chk_of _ _

/-! ## The scratch -/

section Scratch

variable (x1 : Vec Ideal S4096x8 .f32) (x2 : Vec Ideal S8x4096x8 .f32) (x3 : Vec Ideal S1x8x1 .f32) (x4 : Vec Ideal S8x8x1 .f32) (a : Fin 8) {v : BitVec 32} (hv : v = BitVec.ofNat 32 a.val)

theorem off_at : (Scalar.indexCast (BitVec.ofNat 32 a.val) : Index).toNat = a.val := by revert a; decide

include hv in
theorem weights16_lo (h) (d : Fin 4096) (k : Fin 8) : weights16 x1 x2 v h (ix2 d ⟨k.val, by omega⟩) = x1 (ix2 d k) := by
  subst hv
  unfold weights16
  rw [second_piece _ _ _ _ (ix2 d ⟨k.val, by omega⟩) (ix2 d k) (by intro a; fin_cases a <;> show _ = _ + 1 * _ <;> simp [ix2]) 1
    (by intro z; show k.val ≠ 8 + 1 * _; omega)]
  pointwise [k0_pay9]
include hv in
theorem weights16_hi (h) (d : Fin 4096) (k : Fin 8) : weights16 x1 x2 v h (ix2 d ⟨8 + k.val, by omega⟩) = x2 (ix3 a d k) := by
  subst hv
  unfold weights16
  rw [first_piece _ _ _ _ (ix2 d ⟨8 + k.val, by omega⟩) (ix2 d k) (by intro a; fin_cases a <;> show _ = _ + 1 * _ <;> simp [ix2])]
  pointwise [k0_pay10]
  refine congrArg x2 (funext fun i => Fin.ext ?_)
  have := off_at a
  fin_cases i
  · show (Scalar.indexCast (BitVec.ofNat 32 a.val) : Index).toNat = a.val
    omega
  · show 0 + d.val = d.val
    omega
  · show 0 + k.val = k.val
    omega
include hv in
theorem biases16_lo (h) (k : Fin 8) : biases16 x3 x4 v h (ix2 ⟨k.val, by omega⟩ 0) = x3 (ix3 0 k 0) := by
  subst hv
  unfold biases16
  rw [second_piece _ _ _ _ (ix2 ⟨k.val, by omega⟩ 0) (ix2 k 0) (by intro a; fin_cases a <;> show _ = _ + 1 * _ <;> simp [ix2]) 0
    (by intro z; show k.val ≠ 8 + 1 * _; omega)]
  pointwise [k0_pay12, k0_pay11]
include hv in
theorem biases16_hi (h) (k : Fin 8) : biases16 x3 x4 v h (ix2 ⟨8 + k.val, by omega⟩ 0) = x4 (ix3 a k 0) := by
  subst hv
  unfold biases16
  rw [first_piece _ _ _ _ (ix2 ⟨8 + k.val, by omega⟩ 0) (ix2 k 0) (by intro a; fin_cases a <;> show _ = _ + 1 * _ <;> simp [ix2])]
  pointwise [k0_pay13]
  refine congrArg x4 (funext fun i => Fin.ext ?_)
  have := off_at a
  fin_cases i
  · show (Scalar.indexCast (BitVec.ofNat 32 a.val) : Index).toNat = a.val
    omega
  · show 0 + k.val = k.val
    omega
  · rfl

end Scratch

attribute [local irreducible] pick weights16 biases16

theorem scrW_lo (d : Fin 4096) (k : Fin 8) : scrW m c (hk m c) (ix2 d ⟨k.val, by omega⟩) = argCW m c (ix2 k d) :=
  (weights16_lo (iblk m c 1 pt0) (iblk m c 2 pt0) (zeroth m c) (pick_eq m c) _ d k).trans (blk_cw m c pt0 d k)
theorem scrW_hi (d : Fin 4096) (k : Fin 8) : scrW m c (hk m c) (ix2 d ⟨8 + k.val, by omega⟩) = argEW m c (ix3 (zeroth m c) k d) :=
  (weights16_hi (iblk m c 1 pt0) (iblk m c 2 pt0) (zeroth m c) (pick_eq m c) _ d k).trans (blk_ew m c pt0 (zeroth m c) d k)
theorem scrB_lo (k : Fin 8) : scrB m c (hk m c) (ix2 ⟨k.val, by omega⟩ 0) = argCB m c (ix1 k) :=
  (biases16_lo (iblk m c 3 pt0) (iblk m c 4 pt0) (zeroth m c) (pick_eq m c) _ k).trans (blk_cb m c pt0 k)
theorem scrB_hi (k : Fin 8) : scrB m c (hk m c) (ix2 ⟨8 + k.val, by omega⟩ 0) = argEB m c (ix2 (zeroth m c) k) :=
  (biases16_hi (iblk m c 3 pt0) (iblk m c 4 pt0) (zeroth m c) (pick_eq m c) _ k).trans (blk_eb m c pt0 (zeroth m c) k)

theorem cRow_eq (t : Fin cfg0.N) (j : Fin 1024) : cRow (scrW m c (hk m c)) (iblk m c 0 t) (scrB m c (hk m c)) j = cLogit m c (tok t j) := by
  funext k
  rw [cRow_apply, scrB_lo]
  refine congrArg (· + argCB m c (ix1 k)) (Finset.sum_congr rfl fun d _ => ?_)
  rw [scrW_lo, blk_x]
theorem eRow_eq (t : Fin cfg0.N) (j : Fin 1024) : eRow (scrW m c (hk m c)) (iblk m c 0 t) (scrB m c (hk m c)) j = eLogit m c (zeroth m c) (tok t j) := by
  funext k
  rw [eRow_apply, scrB_hi]
  refine congrArg (· + argEB m c (ix2 (zeroth m c) k)) (Finset.sum_congr rfl fun d _ => ?_)
  rw [scrW_hi, blk_x]

/-! ## The launch's results -/

/-- The words and the weights of token `t`'s two choices. -/
def wordAt (r : Fin 2) (t : Fin 32768) : BitVec 32 :=
  wordOf (pick8 (cLogit m c t)) (![pick8 (eLogit m c (zeroth m c) t), second (eLogit m c (zeroth m c) t)] r)
def wgtAt (r : Fin 2) (t : Fin 32768) : EReal :=
  ![Ideal.div (Ideal.div 1 (den (cLogit m c t))) (den (eLogit m c (zeroth m c) t)),
    Ideal.div (Ideal.div 1 (den (cLogit m c t)) * Ideal.exp (top (rest (eLogit m c (zeroth m c) t)) - top (eLogit m c (zeroth m c) t))) (den (eLogit m c (zeroth m c) t))] r

theorem ix2_eta {n k : ℕ} (y : (⟨2, ![n, k]⟩ : Shape).Idx) : ∃ a b, y = ix2 a b :=
  ⟨y 0, y 1, by funext i; fin_cases i <;> rfl⟩

theorem arr5 : (dats m (hk m) 0 c).arrAt 5 cfg0.N = (fun i => wordAt m c (i 0) (i 1) : Vec Ideal S2x32768 .i32) := by
  refine (dats m (hk m) 0 c).arrAt_eq_of_covers 5 _ (by decide +kernel) fun t hf y => ?_
  blk_simp
  rw [after0_5]
  obtain ⟨r, j, rfl⟩ := ix2_eta (n := 2) (k := 1024) y
  rw [show ((cfg0.win 5).blk t).view.emb (ix2 r j) = ix2 r (tok t j) from by blk_ext [idx5]; rfl]
  show idxBlock (F := Ideal) _ _ _ (ix2 r j) = wordAt m c r (tok t j)
  fin_cases r
  · exact (idxBlock_0 _ _ _ j).trans (by rw [cRow_eq, eRow_eq]; rfl)
  · exact (idxBlock_1 _ _ _ j).trans (by rw [cRow_eq, eRow_eq]; rfl)
theorem arr6 : (dats m (hk m) 0 c).arrAt 6 cfg0.N = (fun i => wgtAt m c (i 0) (i 1) : Vec Ideal S2x32768 .f32) := by
  refine (dats m (hk m) 0 c).arrAt_eq_of_covers 6 _ (by decide +kernel) fun t hf y => ?_
  blk_simp
  rw [after0_6]
  obtain ⟨r, j, rfl⟩ := ix2_eta (n := 2) (k := 1024) y
  rw [show ((cfg0.win 6).blk t).view.emb (ix2 r j) = ix2 r (tok t j) from by blk_ext [idx6]; rfl]
  show wgtBlock (F := Ideal) _ _ _ (ix2 r j) = wgtAt m c r (tok t j)
  fin_cases r
  · exact (wgtBlock_0 _ _ _ j).trans (by rw [cRow_eq, eRow_eq]; rfl)
  · exact (wgtBlock_1 _ _ _ j).trans (by rw [cRow_eq, eRow_eq]; rfl)

variable (ρ : Dev nD → PrngReg)

/-- The run: the two results token by token, and the arguments unchanged. -/
theorem kernel_run : θ_run defs (onTc (τ := τ) (main (F := Ideal))) ⟨m, fun _ => 0, ρ⟩ (fun r => ∀ c : Dev nD,
      r.2.mem ((c.tc : Thread nD τ).loc main_v0_0) = (fun i => wordAt m c (i 1) (i 0) : Vec Ideal S32768x2 .i32)
      ∧ r.2.mem ((c.tc : Thread nD τ).loc main_v0_1) = (fun i => wgtAt m c (i 1) (i 0) : Vec Ideal S32768x2 .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨((h.1 c).2 main_v0_0 (Pipeline.mem_restRefs_of main_v0_0 (by decide) (by decide))).trans ((W_v0_0 m c _).trans (by
        rw [arr5]; funext i
        obtain ⟨t, r, rfl⟩ := ix2_eta (n := 32768) (k := 2) i
        pointwise [])),
      ((h.1 c).2 main_v0_1 (Pipeline.mem_restRefs_of main_v0_1 (by decide) (by decide))).trans ((W_v0_1 m c _).trans (by
        rw [arr6]; funext i
        obtain ⟨t, r, rfl⟩ := ix2_eta (n := 32768) (k := 2) i
        pointwise [])),
      h.2.1 c⟩)
    (θ_run_and ((θ_run defs _ _).mono (fun _ h => h.1) (run_quiescent m ρ (hk m))) (frame m ρ (hk m)))

end Cert.Router

end
-- ==== Proof.RefStages.lean ====
/-
  The reference's two results, in named stages: the logits of a router, its softmax, the choice of a row's greatest entries, and
  the expert router picked by the first token's cluster.
-/
module

public import proofs.«01_k».proof.Proof.Gen.ReferenceIdeal
public import Idealize.ShloMosaic.Lib.StableHlo.Run

@[expose] public section

noncomputable section

namespace Cert.Router.Ref

open Cert.ReferenceIdeal Cert.ReferenceIdeal.Gen
open Idealize.ShloMosaic Idealize.ShloMosaic.TcCoe Idealize.SL.Sem Idealize.ShloMosaic.StableHlo

variable {F : FTy → Type} [FloatOps F]

/-- The logits of a router with weights `W` and biases `b`. -/
def logits (x : Vec F S32768x4096 .f32) (W : Vec F S8x4096 .f32) (b : Vec F S8 .f32) : Vec F S32768x8 .f32 :=
  addf (Host.dotGeneral dot_S32768x4096_S4096x8_S32768x8_1_0_0_1_n_n none x (transpose S4096x8 [1, 0] W transposes_S8x4096_S4096x8_1_0))
    (broadcastInDim S32768x8 ![0, 1] bcast_S1x8_S32768x8_0_1 (broadcastInDim S1x8 ![1] bcast_S8_S1x8_1 b))

/-- The exponentials of the logits less their row's maximum. -/
def exps (L : Vec F S32768x8 .f32) : Vec F S32768x8 .f32 :=
  Host.exp (subf L (broadcastInDim S32768x8 ![0, 1] bcast_S32768x1_S32768x8_0_1 (broadcastInDim S32768x1 ![0] bcast_S32768_S32768x1_0
    (maximumf (broadcastInDim S32768 ![] bcast_S_S32768 (constant S_ .f32 0xFF800000#32))
      (Host.reduce FloatOps.maximumf L (constant S_ .f32 0xFF800000#32) reducesTo_S32768x8_S32768_d1 h_S_)))))

/-- The softmax of the rows. -/
def soft (L : Vec F S32768x8 .f32) : Vec F S32768x8 .f32 :=
  Host.divf (exps L) (broadcastInDim S32768x8 ![0, 1] bcast_S32768x1_S32768x8_0_1 (broadcastInDim S32768x1 ![0] bcast_S32768_S32768x1_0
    (Host.reduceAdd (exps L) (constant S_ .f32 0x00000000#32) reducesTo_S32768x8_S32768_d1 h_S_)))

/-- The greatest entry of each row with its position, and the two greatest. -/
def top1 (P : Vec F S32768x8 .f32) : Vec F S32768x1 .f32 × Vec F S32768x1 .i32 :=
  Host.topK S32768x1 1 (FloatOps.cmpfTotal .gt) P sliceFits_S32768x8_S32768x1
def top2 (P : Vec F S32768x8 .f32) : Vec F S32768x2 .f32 × Vec F S32768x2 .i32 :=
  Host.topK S32768x2 1 (FloatOps.cmpfTotal .gt) P sliceFits_S32768x8_S32768x2

/-- The first token's entry of a row of words, -/
def first (T : Vec F S32768 .i32) : Vec F S_ .i32 :=
  shapeCast _ (extractStridedSlice S1 ![0] T slices_S32768_S1_0) shapeCasts_S1_S_
/-- The row of the tokens' clusters. -/
def flat (T : Vec F S32768x1 .i32) : Vec F S32768 .i32 := shapeCast S32768 T shapeCasts_S32768x1_S32768
/-- and as a start index: a negative word counts from the end. -/
def start (v : Vec F S_ .i32) : Vec F S_ .i32 :=
  select (cmpi .slt v (constantI S_ 32 0#32)) (addi v (constantI S_ 32 8#32)) v
def zero8 : Vec F S_ .i32 :=
  select (cmpi .slt (constantI S_ 32 0#32) (constantI S_ 32 0#32)) (addi (constantI S_ 32 0#32) (constantI S_ 32 8#32)) (constantI S_ 32 0#32)
def zero4096 : Vec F S_ .i32 :=
  select (cmpi .slt (constantI S_ 32 0#32) (constantI S_ 32 0#32)) (addi (constantI S_ 32 0#32) (constantI S_ 32 4096#32)) (constantI S_ 32 0#32)

/-- The weights and the biases of the experts of cluster `v`. -/
def expW (W : Vec F S8x8x4096 .f32) (v : Vec F S_ .i32) : Vec F S8x4096 .f32 :=
  shapeCast _ (Host.dynamicSlice S1x8x4096 W (fun k => (((![start v, zero8 (F := F), zero4096 (F := F)] : Fin 3 → (⟨S_, .i32⟩ : BufTy).Contents (Elt F))) k (Shape.Idx.first h_S_)).toInt) sliceFits_S8x8x4096_S1x8x4096) shapeCasts_S1x8x4096_S8x4096
def expB (b : Vec F S8x8 .f32) (v : Vec F S_ .i32) : Vec F S8 .f32 :=
  shapeCast _ (Host.dynamicSlice S1x8 b (fun k => (((![start v, zero8 (F := F)] : Fin 2 → (⟨S_, .i32⟩ : BufTy).Contents (Elt F))) k (Shape.Idx.first h_S_)).toInt) sliceFits_S8x8_S1x8) shapeCasts_S1x8_S8

/-- The two choices. -/
def clusterTop (x : Vec F S32768x4096 .f32) (cW : Vec F S8x4096 .f32) (cb : Vec F S8 .f32) : Vec F S32768x1 .f32 × Vec F S32768x1 .i32 :=
  top1 (soft (logits x cW cb))
def expertTop (x : Vec F S32768x4096 .f32) (cW : Vec F S8x4096 .f32) (cb : Vec F S8 .f32) (eW : Vec F S8x8x4096 .f32) (eb : Vec F S8x8 .f32) : Vec F S32768x2 .f32 × Vec F S32768x2 .i32 :=
  top2 (soft (logits x (expW eW (first (F := F) (flat (F := F) (clusterTop x cW cb).2))) (expB eb (first (F := F) (flat (F := F) (clusterTop x cW cb).2)))))

/-- The experts' indices, -/
def idxOut (x : Vec F S32768x4096 .f32) (cW : Vec F S8x4096 .f32) (cb : Vec F S8 .f32) (eW : Vec F S8x8x4096 .f32) (eb : Vec F S8x8 .f32) : Vec F S32768x2 .i32 :=
  addi (broadcastInDim S32768x2 ![0, 1] bcast_S32768x1_S32768x2_0_1 (muli (broadcastInDim S32768x1 ![0] bcast_S32768_S32768x1_0 (flat (F := F) (clusterTop x cW cb).2))
    (broadcastInDim S32768x1 ![] bcast_S_S32768x1 (constantI S_ 32 8#32)))) (expertTop x cW cb eW eb).2
/-- and their weights. -/
def wgtOut (x : Vec F S32768x4096 .f32) (cW : Vec F S8x4096 .f32) (cb : Vec F S8 .f32) (eW : Vec F S8x8x4096 .f32) (eb : Vec F S8x8 .f32) : Vec F S32768x2 .f32 :=
  mulf (expertTop x cW cb eW eb).1 (broadcastInDim S32768x2 ![0, 1] bcast_S32768x1_S32768x2_0_1 (clusterTop x cW cb).1)

end Cert.Router.Ref

end
-- ==== Proof.RefRun.lean ====
/-
  The reference's run: its operations in seven groups, what each group leaves in the buffers that later ones read, and the two
  results as the stages' terms of the arguments.
-/
module

public import proofs.«01_k».proof.Proof.RefStages
public import Idealize.ShloMosaic.Lib.StableHlo.RunClose

@[expose] public section

noncomputable section

namespace Cert.Router.Ref

open Cert.ReferenceIdeal Cert.ReferenceIdeal.Gen
open Idealize.ShloMosaic Idealize.ShloMosaic.TcCoe Idealize.SL.Sem Idealize.ShloMosaic.StableHlo

variable {F : FTy → Type} [FloatOps F]

/-- A group of operations leaves alone every buffer outside the list of those it writes. -/
theorem keeps {W : List (Ref sig .tc)} {r : Ref sig .tc} (ops : List (HloOp τ sig (Elt F)))
    (h : ops.map HloOp.writes = W.map fun r => {Proc.devRef (τ := τ) .tc r}) (hr : r ∉ W) (V : Valuation τ sig (Elt F)) :
    after ops V (Proc.devRef .tc r) = V (Proc.devRef .tc r) :=
  after_of_writes_sub ops V (forall_writes_sub_of_map h) hr

/-- The clusters' softmax, -/
abbrev opsA : List (HloOp τ sig (Elt F)) :=
  [ unary main_arg1 main_v0 ((transpose S4096x8 [1, 0] · transposes_S8x4096_S4096x8_1_0) : (⟨S8x4096, .f32⟩ : BufTy).Contents (Elt F) → (⟨S4096x8, .f32⟩ : BufTy).Contents (Elt F)),
    binary main_arg0 main_v0 main_v1 ((fun l r => Host.dotGeneral dot_S32768x4096_S4096x8_S32768x8_1_0_0_1_n_n none l r) : (⟨S32768x4096, .f32⟩ : BufTy).Contents (Elt F) → (⟨S4096x8, .f32⟩ : BufTy).Contents (Elt F) → (⟨S32768x8, .f32⟩ : BufTy).Contents (Elt F)),
    unary main_arg2 main_v2 (broadcastInDim S1x8 ![1] bcast_S8_S1x8_1 : (⟨S8, .f32⟩ : BufTy).Contents (Elt F) → (⟨S1x8, .f32⟩ : BufTy).Contents (Elt F)),
    unary main_v2 main_v3 (broadcastInDim S32768x8 ![0, 1] bcast_S1x8_S32768x8_0_1 : (⟨S1x8, .f32⟩ : BufTy).Contents (Elt F) → (⟨S32768x8, .f32⟩ : BufTy).Contents (Elt F)),
    binary main_v1 main_v3 main_v4 (addf : (⟨S32768x8, .f32⟩ : BufTy).Contents (Elt F) → (⟨S32768x8, .f32⟩ : BufTy).Contents (Elt F) → (⟨S32768x8, .f32⟩ : BufTy).Contents (Elt F)),
    nullary main_cst (constant S_ .f32 0xFF800000#32),
    binary main_v4 main_cst main_v5 ((fun x v => Host.reduce FloatOps.maximumf x v reducesTo_S32768x8_S32768_d1 h_S_) : (⟨S32768x8, .f32⟩ : BufTy).Contents (Elt F) → (⟨S_, .f32⟩ : BufTy).Contents (Elt F) → (⟨S32768, .f32⟩ : BufTy).Contents (Elt F)),
    nullary main_cst_0 (constant S_ .f32 0xFF800000#32),
    unary main_cst_0 main_v6 (broadcastInDim S32768 ![] bcast_S_S32768 : (⟨S_, .f32⟩ : BufTy).Contents (Elt F) → (⟨S32768, .f32⟩ : BufTy).Contents (Elt F)),
    binary main_v6 main_v5 main_v7 (maximumf : (⟨S32768, .f32⟩ : BufTy).Contents (Elt F) → (⟨S32768, .f32⟩ : BufTy).Contents (Elt F) → (⟨S32768, .f32⟩ : BufTy).Contents (Elt F)),
    unary main_v7 main_v8 (broadcastInDim S32768x1 ![0] bcast_S32768_S32768x1_0 : (⟨S32768, .f32⟩ : BufTy).Contents (Elt F) → (⟨S32768x1, .f32⟩ : BufTy).Contents (Elt F)),
    unary main_v8 main_v9 (broadcastInDim S32768x8 ![0, 1] bcast_S32768x1_S32768x8_0_1 : (⟨S32768x1, .f32⟩ : BufTy).Contents (Elt F) → (⟨S32768x8, .f32⟩ : BufTy).Contents (Elt F)),
    binary main_v4 main_v9 main_v10 (subf : (⟨S32768x8, .f32⟩ : BufTy).Contents (Elt F) → (⟨S32768x8, .f32⟩ : BufTy).Contents (Elt F) → (⟨S32768x8, .f32⟩ : BufTy).Contents (Elt F)),
    unary main_v10 main_v11 (Host.exp : (⟨S32768x8, .f32⟩ : BufTy).Contents (Elt F) → (⟨S32768x8, .f32⟩ : BufTy).Contents (Elt F)),
    nullary main_cst_1 (constant S_ .f32 0x00000000#32),
    binary main_v11 main_cst_1 main_v12 ((fun x v => Host.reduceAdd x v reducesTo_S32768x8_S32768_d1 h_S_) : (⟨S32768x8, .f32⟩ : BufTy).Contents (Elt F) → (⟨S_, .f32⟩ : BufTy).Contents (Elt F) → (⟨S32768, .f32⟩ : BufTy).Contents (Elt F)),
    unary main_v12 main_v13 (broadcastInDim S32768x1 ![0] bcast_S32768_S32768x1_0 : (⟨S32768, .f32⟩ : BufTy).Contents (Elt F) → (⟨S32768x1, .f32⟩ : BufTy).Contents (Elt F)),
    unary main_v13 main_v14 (broadcastInDim S32768x8 ![0, 1] bcast_S32768x1_S32768x8_0_1 : (⟨S32768x1, .f32⟩ : BufTy).Contents (Elt F) → (⟨S32768x8, .f32⟩ : BufTy).Contents (Elt F)),
    binary main_v11 main_v14 main_v15 (Host.divf : (⟨S32768x8, .f32⟩ : BufTy).Contents (Elt F) → (⟨S32768x8, .f32⟩ : BufTy).Contents (Elt F) → (⟨S32768x8, .f32⟩ : BufTy).Contents (Elt F)) ]
abbrev outsA : List (Ref sig .tc) := [main_v0, main_v1, main_v2, main_v3, main_v4, main_cst, main_v5, main_cst_0, main_v6, main_v7, main_v8, main_v9, main_v10, main_v11, main_cst_1, main_v12, main_v13, main_v14, main_v15]
set_option maxRecDepth 8192 in
theorem writesA : (opsA (F := F)).map HloOp.writes = outsA.map fun r => {Proc.devRef (τ := τ) .tc r} := rfl
set_option maxRecDepth 8192 in
theorem subsA : (opsA (F := F)).Forall fun op => op.bufs ⊆ tcRefs τ sig :=
  ⟨unary_bufs_sub .., binary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub ..⟩

/-- the tokens' clusters, -/
abbrev opsB : List (HloOp τ sig (Elt F)) :=
  [ unary main_v15 main_values ((fun x => (Host.topK S32768x1 1 (FloatOps.cmpfTotal .gt) x sliceFits_S32768x8_S32768x1).1) : (⟨S32768x8, .f32⟩ : BufTy).Contents (Elt F) → (⟨S32768x1, .f32⟩ : BufTy).Contents (Elt F)),
    unary main_v15 main_indices ((fun x => (Host.topK S32768x1 1 (FloatOps.cmpfTotal .gt) x sliceFits_S32768x8_S32768x1).2) : (⟨S32768x8, .f32⟩ : BufTy).Contents (Elt F) → (⟨S32768x1, .i32⟩ : BufTy).Contents (Elt F)),
    reshape main_indices main_v16 (rfl : (.i32 : EltTy) = .i32) shapeCasts_S32768x1_S32768 ]
abbrev outsB : List (Ref sig .tc) := [main_values, main_indices, main_v16]
set_option maxRecDepth 8192 in
theorem writesB : (opsB (F := F)).map HloOp.writes = outsB.map fun r => {Proc.devRef (τ := τ) .tc r} := rfl
set_option maxRecDepth 8192 in
theorem subsB : (opsB (F := F)).Forall fun op => op.bufs ⊆ tcRefs τ sig :=
  ⟨unary_bufs_sub .., unary_bufs_sub .., reshape_bufs_sub ..⟩

/-- the weights of the first token's cluster's experts, -/
abbrev opsC : List (HloOp τ sig (Elt F)) :=
  [ unary main_v16 main_v17 ((extractStridedSlice S1 ![0] · slices_S32768_S1_0) : (⟨S32768, .i32⟩ : BufTy).Contents (Elt F) → (⟨S1, .i32⟩ : BufTy).Contents (Elt F)),
    reshape main_v17 main_v18 (rfl : (.i32 : EltTy) = .i32) shapeCasts_S1_S_,
    nullary main_c (constantI S_ 32 0#32),
    binary main_v18 main_c main_v19 (cmpi .slt : (⟨S_, .i32⟩ : BufTy).Contents (Elt F) → (⟨S_, .i32⟩ : BufTy).Contents (Elt F) → (⟨S_, .i1⟩ : BufTy).Contents (Elt F)),
    nullary main_c_2 (constantI S_ 32 8#32),
    binary main_v18 main_c_2 main_v20 (addi : (⟨S_, .i32⟩ : BufTy).Contents (Elt F) → (⟨S_, .i32⟩ : BufTy).Contents (Elt F) → (⟨S_, .i32⟩ : BufTy).Contents (Elt F)),
    ternary main_v19 main_v20 main_v18 main_v21 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_3 (constantI S_ 32 0#32),
    nullary main_c_4 (constantI S_ 32 0#32),
    binary main_c_3 main_c_4 main_v22 (cmpi .slt : (⟨S_, .i32⟩ : BufTy).Contents (Elt F) → (⟨S_, .i32⟩ : BufTy).Contents (Elt F) → (⟨S_, .i1⟩ : BufTy).Contents (Elt F)),
    nullary main_c_5 (constantI S_ 32 0#32),
    nullary main_c_6 (constantI S_ 32 8#32),
    binary main_c_5 main_c_6 main_v23 (addi : (⟨S_, .i32⟩ : BufTy).Contents (Elt F) → (⟨S_, .i32⟩ : BufTy).Contents (Elt F) → (⟨S_, .i32⟩ : BufTy).Contents (Elt F)),
    nullary main_c_7 (constantI S_ 32 0#32),
    ternary main_v22 main_v23 main_c_7 main_v24 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_8 (constantI S_ 32 0#32),
    nullary main_c_9 (constantI S_ 32 0#32),
    binary main_c_8 main_c_9 main_v25 (cmpi .slt : (⟨S_, .i32⟩ : BufTy).Contents (Elt F) → (⟨S_, .i32⟩ : BufTy).Contents (Elt F) → (⟨S_, .i1⟩ : BufTy).Contents (Elt F)),
    nullary main_c_10 (constantI S_ 32 0#32),
    nullary main_c_11 (constantI S_ 32 4096#32),
    binary main_c_10 main_c_11 main_v26 (addi : (⟨S_, .i32⟩ : BufTy).Contents (Elt F) → (⟨S_, .i32⟩ : BufTy).Contents (Elt F) → (⟨S_, .i32⟩ : BufTy).Contents (Elt F)),
    nullary main_c_12 (constantI S_ 32 0#32),
    ternary main_v25 main_v26 main_c_12 main_v27 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    unaryIndexed main_arg3 ![main_v21, main_v24, main_v27] ⟨S_, .i32⟩ main_v28 ((fun x i => Host.dynamicSlice S1x8x4096 x (fun k => (i k (Shape.Idx.first h_S_)).toInt) sliceFits_S8x8x4096_S1x8x4096) : (⟨S8x8x4096, .f32⟩ : BufTy).Contents (Elt F) → (Fin 3 → (⟨S_, .i32⟩ : BufTy).Contents (Elt F)) → (⟨S1x8x4096, .f32⟩ : BufTy).Contents (Elt F)),
    reshape main_v28 main_v29 (rfl : (.f32 : EltTy) = .f32) shapeCasts_S1x8x4096_S8x4096 ]
abbrev outsC : List (Ref sig .tc) := [main_v17, main_v18, main_c, main_v19, main_c_2, main_v20, main_v21, main_c_3, main_c_4, main_v22, main_c_5, main_c_6, main_v23, main_c_7, main_v24, main_c_8, main_c_9, main_v25, main_c_10, main_c_11, main_v26, main_c_12, main_v27, main_v28, main_v29]
set_option maxRecDepth 8192 in
theorem writesC : (opsC (F := F)).map HloOp.writes = outsC.map fun r => {Proc.devRef (τ := τ) .tc r} := rfl
set_option maxRecDepth 8192 in
theorem subsC : (opsC (F := F)).Forall fun op => op.bufs ⊆ tcRefs τ sig :=
  ⟨unary_bufs_sub .., reshape_bufs_sub .., nullary_bufs_sub .., binary_bufs_sub .., nullary_bufs_sub .., binary_bufs_sub .., ternary_bufs_sub .., nullary_bufs_sub .., nullary_bufs_sub .., binary_bufs_sub .., nullary_bufs_sub .., nullary_bufs_sub .., binary_bufs_sub .., nullary_bufs_sub .., ternary_bufs_sub .., nullary_bufs_sub .., nullary_bufs_sub .., binary_bufs_sub .., nullary_bufs_sub .., nullary_bufs_sub .., binary_bufs_sub .., nullary_bufs_sub .., ternary_bufs_sub .., unaryIndexed_bufs_sub .., reshape_bufs_sub ..⟩

/-- their biases, -/
abbrev opsD : List (HloOp τ sig (Elt F)) :=
  [ unary main_v16 main_v30 ((extractStridedSlice S1 ![0] · slices_S32768_S1_0) : (⟨S32768, .i32⟩ : BufTy).Contents (Elt F) → (⟨S1, .i32⟩ : BufTy).Contents (Elt F)),
    reshape main_v30 main_v31 (rfl : (.i32 : EltTy) = .i32) shapeCasts_S1_S_,
    nullary main_c_13 (constantI S_ 32 0#32),
    binary main_v31 main_c_13 main_v32 (cmpi .slt : (⟨S_, .i32⟩ : BufTy).Contents (Elt F) → (⟨S_, .i32⟩ : BufTy).Contents (Elt F) → (⟨S_, .i1⟩ : BufTy).Contents (Elt F)),
    nullary main_c_14 (constantI S_ 32 8#32),
    binary main_v31 main_c_14 main_v33 (addi : (⟨S_, .i32⟩ : BufTy).Contents (Elt F) → (⟨S_, .i32⟩ : BufTy).Contents (Elt F) → (⟨S_, .i32⟩ : BufTy).Contents (Elt F)),
    ternary main_v32 main_v33 main_v31 main_v34 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_15 (constantI S_ 32 0#32),
    nullary main_c_16 (constantI S_ 32 0#32),
    binary main_c_15 main_c_16 main_v35 (cmpi .slt : (⟨S_, .i32⟩ : BufTy).Contents (Elt F) → (⟨S_, .i32⟩ : BufTy).Contents (Elt F) → (⟨S_, .i1⟩ : BufTy).Contents (Elt F)),
    nullary main_c_17 (constantI S_ 32 0#32),
    nullary main_c_18 (constantI S_ 32 8#32),
    binary main_c_17 main_c_18 main_v36 (addi : (⟨S_, .i32⟩ : BufTy).Contents (Elt F) → (⟨S_, .i32⟩ : BufTy).Contents (Elt F) → (⟨S_, .i32⟩ : BufTy).Contents (Elt F)),
    nullary main_c_19 (constantI S_ 32 0#32),
    ternary main_v35 main_v36 main_c_19 main_v37 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    unaryIndexed main_arg4 ![main_v34, main_v37] ⟨S_, .i32⟩ main_v38 ((fun x i => Host.dynamicSlice S1x8 x (fun k => (i k (Shape.Idx.first h_S_)).toInt) sliceFits_S8x8_S1x8) : (⟨S8x8, .f32⟩ : BufTy).Contents (Elt F) → (Fin 2 → (⟨S_, .i32⟩ : BufTy).Contents (Elt F)) → (⟨S1x8, .f32⟩ : BufTy).Contents (Elt F)),
    reshape main_v38 main_v39 (rfl : (.f32 : EltTy) = .f32) shapeCasts_S1x8_S8 ]
abbrev outsD : List (Ref sig .tc) := [main_v30, main_v31, main_c_13, main_v32, main_c_14, main_v33, main_v34, main_c_15, main_c_16, main_v35, main_c_17, main_c_18, main_v36, main_c_19, main_v37, main_v38, main_v39]
set_option maxRecDepth 8192 in
theorem writesD : (opsD (F := F)).map HloOp.writes = outsD.map fun r => {Proc.devRef (τ := τ) .tc r} := rfl
set_option maxRecDepth 8192 in
theorem subsD : (opsD (F := F)).Forall fun op => op.bufs ⊆ tcRefs τ sig :=
  ⟨unary_bufs_sub .., reshape_bufs_sub .., nullary_bufs_sub .., binary_bufs_sub .., nullary_bufs_sub .., binary_bufs_sub .., ternary_bufs_sub .., nullary_bufs_sub .., nullary_bufs_sub .., binary_bufs_sub .., nullary_bufs_sub .., nullary_bufs_sub .., binary_bufs_sub .., nullary_bufs_sub .., ternary_bufs_sub .., unaryIndexed_bufs_sub .., reshape_bufs_sub ..⟩

/-- the experts' softmax, -/
abbrev opsE : List (HloOp τ sig (Elt F)) :=
  [ unary main_v29 main_v40 ((transpose S4096x8 [1, 0] · transposes_S8x4096_S4096x8_1_0) : (⟨S8x4096, .f32⟩ : BufTy).Contents (Elt F) → (⟨S4096x8, .f32⟩ : BufTy).Contents (Elt F)),
    binary main_arg0 main_v40 main_v41 ((fun l r => Host.dotGeneral dot_S32768x4096_S4096x8_S32768x8_1_0_0_1_n_n none l r) : (⟨S32768x4096, .f32⟩ : BufTy).Contents (Elt F) → (⟨S4096x8, .f32⟩ : BufTy).Contents (Elt F) → (⟨S32768x8, .f32⟩ : BufTy).Contents (Elt F)),
    unary main_v39 main_v42 (broadcastInDim S1x8 ![1] bcast_S8_S1x8_1 : (⟨S8, .f32⟩ : BufTy).Contents (Elt F) → (⟨S1x8, .f32⟩ : BufTy).Contents (Elt F)),
    unary main_v42 main_v43 (broadcastInDim S32768x8 ![0, 1] bcast_S1x8_S32768x8_0_1 : (⟨S1x8, .f32⟩ : BufTy).Contents (Elt F) → (⟨S32768x8, .f32⟩ : BufTy).Contents (Elt F)),
    binary main_v41 main_v43 main_v44 (addf : (⟨S32768x8, .f32⟩ : BufTy).Contents (Elt F) → (⟨S32768x8, .f32⟩ : BufTy).Contents (Elt F) → (⟨S32768x8, .f32⟩ : BufTy).Contents (Elt F)),
    nullary main_cst_20 (constant S_ .f32 0xFF800000#32),
    binary main_v44 main_cst_20 main_v45 ((fun x v => Host.reduce FloatOps.maximumf x v reducesTo_S32768x8_S32768_d1 h_S_) : (⟨S32768x8, .f32⟩ : BufTy).Contents (Elt F) → (⟨S_, .f32⟩ : BufTy).Contents (Elt F) → (⟨S32768, .f32⟩ : BufTy).Contents (Elt F)),
    nullary main_cst_21 (constant S_ .f32 0xFF800000#32),
    unary main_cst_21 main_v46 (broadcastInDim S32768 ![] bcast_S_S32768 : (⟨S_, .f32⟩ : BufTy).Contents (Elt F) → (⟨S32768, .f32⟩ : BufTy).Contents (Elt F)),
    binary main_v46 main_v45 main_v47 (maximumf : (⟨S32768, .f32⟩ : BufTy).Contents (Elt F) → (⟨S32768, .f32⟩ : BufTy).Contents (Elt F) → (⟨S32768, .f32⟩ : BufTy).Contents (Elt F)),
    unary main_v47 main_v48 (broadcastInDim S32768x1 ![0] bcast_S32768_S32768x1_0 : (⟨S32768, .f32⟩ : BufTy).Contents (Elt F) → (⟨S32768x1, .f32⟩ : BufTy).Contents (Elt F)),
    unary main_v48 main_v49 (broadcastInDim S32768x8 ![0, 1] bcast_S32768x1_S32768x8_0_1 : (⟨S32768x1, .f32⟩ : BufTy).Contents (Elt F) → (⟨S32768x8, .f32⟩ : BufTy).Contents (Elt F)),
    binary main_v44 main_v49 main_v50 (subf : (⟨S32768x8, .f32⟩ : BufTy).Contents (Elt F) → (⟨S32768x8, .f32⟩ : BufTy).Contents (Elt F) → (⟨S32768x8, .f32⟩ : BufTy).Contents (Elt F)),
    unary main_v50 main_v51 (Host.exp : (⟨S32768x8, .f32⟩ : BufTy).Contents (Elt F) → (⟨S32768x8, .f32⟩ : BufTy).Contents (Elt F)),
    nullary main_cst_22 (constant S_ .f32 0x00000000#32),
    binary main_v51 main_cst_22 main_v52 ((fun x v => Host.reduceAdd x v reducesTo_S32768x8_S32768_d1 h_S_) : (⟨S32768x8, .f32⟩ : BufTy).Contents (Elt F) → (⟨S_, .f32⟩ : BufTy).Contents (Elt F) → (⟨S32768, .f32⟩ : BufTy).Contents (Elt F)),
    unary main_v52 main_v53 (broadcastInDim S32768x1 ![0] bcast_S32768_S32768x1_0 : (⟨S32768, .f32⟩ : BufTy).Contents (Elt F) → (⟨S32768x1, .f32⟩ : BufTy).Contents (Elt F)),
    unary main_v53 main_v54 (broadcastInDim S32768x8 ![0, 1] bcast_S32768x1_S32768x8_0_1 : (⟨S32768x1, .f32⟩ : BufTy).Contents (Elt F) → (⟨S32768x8, .f32⟩ : BufTy).Contents (Elt F)),
    binary main_v51 main_v54 main_v55 (Host.divf : (⟨S32768x8, .f32⟩ : BufTy).Contents (Elt F) → (⟨S32768x8, .f32⟩ : BufTy).Contents (Elt F) → (⟨S32768x8, .f32⟩ : BufTy).Contents (Elt F)) ]
abbrev outsE : List (Ref sig .tc) := [main_v40, main_v41, main_v42, main_v43, main_v44, main_cst_20, main_v45, main_cst_21, main_v46, main_v47, main_v48, main_v49, main_v50, main_v51, main_cst_22, main_v52, main_v53, main_v54, main_v55]
set_option maxRecDepth 8192 in
theorem writesE : (opsE (F := F)).map HloOp.writes = outsE.map fun r => {Proc.devRef (τ := τ) .tc r} := rfl
set_option maxRecDepth 8192 in
theorem subsE : (opsE (F := F)).Forall fun op => op.bufs ⊆ tcRefs τ sig :=
  ⟨unary_bufs_sub .., binary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub ..⟩

/-- the two greatest, -/
abbrev opsG : List (HloOp τ sig (Elt F)) :=
  [ unary main_v55 main_values_23 ((fun x => (Host.topK S32768x2 1 (FloatOps.cmpfTotal .gt) x sliceFits_S32768x8_S32768x2).1) : (⟨S32768x8, .f32⟩ : BufTy).Contents (Elt F) → (⟨S32768x2, .f32⟩ : BufTy).Contents (Elt F)),
    unary main_v55 main_indices_24 ((fun x => (Host.topK S32768x2 1 (FloatOps.cmpfTotal .gt) x sliceFits_S32768x8_S32768x2).2) : (⟨S32768x8, .f32⟩ : BufTy).Contents (Elt F) → (⟨S32768x2, .i32⟩ : BufTy).Contents (Elt F)) ]
abbrev outsG : List (Ref sig .tc) := [main_values_23, main_indices_24]
set_option maxRecDepth 8192 in
theorem writesG : (opsG (F := F)).map HloOp.writes = outsG.map fun r => {Proc.devRef (τ := τ) .tc r} := rfl
set_option maxRecDepth 8192 in
theorem subsG : (opsG (F := F)).Forall fun op => op.bufs ⊆ tcRefs τ sig :=
  ⟨unary_bufs_sub .., unary_bufs_sub ..⟩

/-- and the results. -/
abbrev opsH : List (HloOp τ sig (Elt F)) :=
  [ unary main_v16 main_v56 (broadcastInDim S32768x1 ![0] bcast_S32768_S32768x1_0 : (⟨S32768, .i32⟩ : BufTy).Contents (Elt F) → (⟨S32768x1, .i32⟩ : BufTy).Contents (Elt F)),
    nullary main_c_25 (constantI S_ 32 8#32),
    unary main_c_25 main_v57 (broadcastInDim S32768x1 ![] bcast_S_S32768x1 : (⟨S_, .i32⟩ : BufTy).Contents (Elt F) → (⟨S32768x1, .i32⟩ : BufTy).Contents (Elt F)),
    binary main_v56 main_v57 main_v58 (muli : (⟨S32768x1, .i32⟩ : BufTy).Contents (Elt F) → (⟨S32768x1, .i32⟩ : BufTy).Contents (Elt F) → (⟨S32768x1, .i32⟩ : BufTy).Contents (Elt F)),
    unary main_v58 main_v59 (broadcastInDim S32768x2 ![0, 1] bcast_S32768x1_S32768x2_0_1 : (⟨S32768x1, .i32⟩ : BufTy).Contents (Elt F) → (⟨S32768x2, .i32⟩ : BufTy).Contents (Elt F)),
    binary main_v59 main_indices_24 main_v60 (addi : (⟨S32768x2, .i32⟩ : BufTy).Contents (Elt F) → (⟨S32768x2, .i32⟩ : BufTy).Contents (Elt F) → (⟨S32768x2, .i32⟩ : BufTy).Contents (Elt F)),
    unary main_values main_v61 (broadcastInDim S32768x2 ![0, 1] bcast_S32768x1_S32768x2_0_1 : (⟨S32768x1, .f32⟩ : BufTy).Contents (Elt F) → (⟨S32768x2, .f32⟩ : BufTy).Contents (Elt F)),
    binary main_values_23 main_v61 main_v62 (mulf : (⟨S32768x2, .f32⟩ : BufTy).Contents (Elt F) → (⟨S32768x2, .f32⟩ : BufTy).Contents (Elt F) → (⟨S32768x2, .f32⟩ : BufTy).Contents (Elt F)) ]
abbrev outsH : List (Ref sig .tc) := [main_v56, main_c_25, main_v57, main_v58, main_v59, main_v60, main_v61, main_v62]
set_option maxRecDepth 8192 in
theorem writesH : (opsH (F := F)).map HloOp.writes = outsH.map fun r => {Proc.devRef (τ := τ) .tc r} := rfl
set_option maxRecDepth 8192 in
theorem subsH : (opsH (F := F)).Forall fun op => op.bufs ⊆ tcRefs τ sig :=
  ⟨unary_bufs_sub .., nullary_bufs_sub .., unary_bufs_sub .., binary_bufs_sub .., unary_bufs_sub .., binary_bufs_sub .., unary_bufs_sub .., binary_bufs_sub ..⟩

/-- All the operations, in order. -/
abbrev opsAll : List (HloOp τ sig (Elt F)) := opsA ++ (opsB ++ (opsC ++ (opsD ++ (opsE ++ (opsG ++ opsH)))))

theorem after_append (l₁ l₂ : List (HloOp τ sig (Elt F))) (V : Valuation τ sig (Elt F)) : after (l₁ ++ l₂) V = after l₂ (after l₁ V) := by
  induction l₁ generalizing V with
  | nil => rfl
  | cons o l ih => exact ih _

set_option maxRecDepth 8192 in
set_option maxHeartbeats 4000000 in
theorem main_eq (c : Dev nD) : main (F := F) c = seq opsAll := rfl
theorem no_scoped_refs : (Finset.univ.filter fun b : Ref sig .tc => b.isScoped) = ∅ := by decide
theorem no_scoped_sems : (Finset.univ.filter fun sm : SemLoc sig => sm.isScoped .tc) = ∅ := by decide

theorem subsAll : (opsAll (F := F)).Forall fun op => op.bufs ⊆ tcRefs τ sig := by
  rw [List.forall_iff_forall_mem]
  intro op h
  simp only [opsAll, List.mem_append] at h
  rcases h with h | h | h | h | h | h | h
  · exact (List.forall_iff_forall_mem.mp subsA) op h
  · exact (List.forall_iff_forall_mem.mp subsB) op h
  · exact (List.forall_iff_forall_mem.mp subsC) op h
  · exact (List.forall_iff_forall_mem.mp subsD) op h
  · exact (List.forall_iff_forall_mem.mp subsE) op h
  · exact (List.forall_iff_forall_mem.mp subsG) op h
  · exact (List.forall_iff_forall_mem.mp subsH) op h

/-! ## What each group computes -/

variable (V : Valuation τ sig (Elt F))

set_option maxRecDepth 8192 in
theorem outA : after opsA V (Proc.devRef .tc main_v15) = soft (F := F) (logits (V (Proc.devRef .tc main_arg0)) (V (Proc.devRef .tc main_arg1)) (V (Proc.devRef .tc main_arg2))) := by
  after_results_simp
  rfl

theorem outB_val : after opsB V (Proc.devRef .tc main_values) = (top1 (F := F) (V (Proc.devRef .tc main_v15))).1 := by
  after_results_simp
  rfl
theorem outB : after opsB V (Proc.devRef .tc main_v16) = flat (F := F) (top1 (F := F) (V (Proc.devRef .tc main_v15))).2 := by
  after_results_simp
  rfl

set_option maxRecDepth 8192 in
theorem outC : after opsC V (Proc.devRef .tc main_v29) = expW (F := F) (V (Proc.devRef .tc main_arg3)) (first (F := F) (V (Proc.devRef .tc main_v16))) := by
  after_results_simp_entrywise
  rfl
set_option maxRecDepth 8192 in
theorem outD : after opsD V (Proc.devRef .tc main_v39) = expB (F := F) (V (Proc.devRef .tc main_arg4)) (first (F := F) (V (Proc.devRef .tc main_v16))) := by
  after_results_simp_entrywise
  rfl
set_option maxRecDepth 8192 in
theorem outE : after opsE V (Proc.devRef .tc main_v55) = soft (F := F) (logits (V (Proc.devRef .tc main_arg0)) (V (Proc.devRef .tc main_v29)) (V (Proc.devRef .tc main_v39))) := by
  after_results_simp
  rfl
theorem outG_val : after opsG V (Proc.devRef .tc main_values_23) = (top2 (F := F) (V (Proc.devRef .tc main_v55))).1 := by
  after_results_simp
  rfl
theorem outG : after opsG V (Proc.devRef .tc main_indices_24) = (top2 (F := F) (V (Proc.devRef .tc main_v55))).2 := by
  after_results_simp
  rfl
theorem outH_idx : after opsH V (Proc.devRef .tc main_v60) =
    addi (broadcastInDim S32768x2 ![0, 1] bcast_S32768x1_S32768x2_0_1 (muli (broadcastInDim S32768x1 ![0] bcast_S32768_S32768x1_0 (V (Proc.devRef .tc main_v16) : Vec F S32768 .i32))
      (broadcastInDim S32768x1 ![] bcast_S_S32768x1 (constantI S_ 32 8#32)))) (V (Proc.devRef .tc main_indices_24) : Vec F S32768x2 .i32) := by
  after_results_simp
theorem outH_wgt : after opsH V (Proc.devRef .tc main_v62) =
    mulf (V (Proc.devRef .tc main_values_23) : Vec F S32768x2 .f32) (broadcastInDim S32768x2 ![0, 1] bcast_S32768x1_S32768x2_0_1 (V (Proc.devRef .tc main_values) : Vec F S32768x1 .f32)) := by
  after_results_simp

/-! ## The whole -/

theorem afterAll : after opsAll V = after opsH (after opsG (after opsE (after opsD (after opsC (after opsB (after opsA V)))))) := by
  simp only [opsAll, after_append]

/-- A buffer that no operation writes. -/
theorem keepsAll {r : Ref sig .tc} (hA : r ∉ outsA) (hB : r ∉ outsB) (hC : r ∉ outsC) (hD : r ∉ outsD) (hE : r ∉ outsE) (hG : r ∉ outsG) (hH : r ∉ outsH) :
    after opsAll V (Proc.devRef .tc r) = V (Proc.devRef .tc r) := by
  rw [afterAll, keeps opsH writesH hH, keeps opsG writesG hG, keeps opsE writesE hE, keeps opsD writesD hD, keeps opsC writesC hC, keeps opsB writesB hB, keeps opsA writesA hA]

/-- The clusters that the second group leaves, -/
theorem at_v16 : after opsB (after opsA V) (Proc.devRef .tc main_v16) = flat (F := F) (clusterTop (V (Proc.devRef .tc main_arg0)) (V (Proc.devRef .tc main_arg1)) (V (Proc.devRef .tc main_arg2))).2 := by
  rw [outB, outA]; rfl
theorem at_values : after opsB (after opsA V) (Proc.devRef .tc main_values) = (clusterTop (F := F) (V (Proc.devRef .tc main_arg0)) (V (Proc.devRef .tc main_arg1)) (V (Proc.devRef .tc main_arg2))).1 := by
  rw [outB_val, outA]; rfl

/-- the experts' softmax that the fifth group leaves, -/
theorem at_v55 : after opsE (after opsD (after opsC (after opsB (after opsA V)))) (Proc.devRef .tc main_v55) =
    soft (F := F) (logits (V (Proc.devRef .tc main_arg0)) (expW (V (Proc.devRef .tc main_arg3)) (first (F := F) (flat (F := F) (clusterTop (V (Proc.devRef .tc main_arg0)) (V (Proc.devRef .tc main_arg1)) (V (Proc.devRef .tc main_arg2))).2)))
      (expB (V (Proc.devRef .tc main_arg4)) (first (F := F) (flat (F := F) (clusterTop (V (Proc.devRef .tc main_arg0)) (V (Proc.devRef .tc main_arg1)) (V (Proc.devRef .tc main_arg2))).2)))) := by
  rw [outE, outD]
  rw [keeps opsD writesD (r := main_arg0) (by decide), keeps opsC writesC (r := main_arg0) (by decide), keeps opsB writesB (r := main_arg0) (by decide), keeps opsA writesA (r := main_arg0) (by decide)]
  rw [keeps opsD writesD (r := main_v29) (by decide), outC]
  rw [keeps opsC writesC (r := main_arg4) (by decide), keeps opsB writesB (r := main_arg4) (by decide), keeps opsA writesA (r := main_arg4) (by decide)]
  rw [keeps opsC writesC (r := main_v16) (by decide)]
  rw [keeps opsB writesB (r := main_arg3) (by decide), keeps opsA writesA (r := main_arg3) (by decide)]
  rw [at_v16]

/-- and the two results. -/
theorem at_v60 : after opsAll V (Proc.devRef .tc main_v60) = idxOut (F := F) (V (Proc.devRef .tc main_arg0)) (V (Proc.devRef .tc main_arg1)) (V (Proc.devRef .tc main_arg2)) (V (Proc.devRef .tc main_arg3)) (V (Proc.devRef .tc main_arg4)) := by
  rw [afterAll, outH_idx, outG, at_v55]
  rw [keeps opsG writesG (r := main_v16) (by decide), keeps opsE writesE (r := main_v16) (by decide), keeps opsD writesD (r := main_v16) (by decide), keeps opsC writesC (r := main_v16) (by decide)]
  rw [at_v16]
  rfl
theorem at_v62 : after opsAll V (Proc.devRef .tc main_v62) = wgtOut (F := F) (V (Proc.devRef .tc main_arg0)) (V (Proc.devRef .tc main_arg1)) (V (Proc.devRef .tc main_arg2)) (V (Proc.devRef .tc main_arg3)) (V (Proc.devRef .tc main_arg4)) := by
  rw [afterAll, outH_wgt, outG_val, at_v55]
  rw [keeps opsG writesG (r := main_values) (by decide), keeps opsE writesE (r := main_values) (by decide), keeps opsD writesD (r := main_values) (by decide), keeps opsC writesC (r := main_values) (by decide)]
  rw [at_values]
  rfl

omit V in
set_option maxRecDepth 8192 in
/-- Every execution of the reference ends with the two results, and with its arguments as they were. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v60) = idxOut (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v62) = wgtOut (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c main_v60).trans (at_v60 _), (h c main_v62).trans (at_v62 _),
      (h c main_arg0).trans (keepsAll _ (by decide) (by decide) (by decide) (by decide) (by decide) (by decide) (by decide)),
      (h c main_arg1).trans (keepsAll _ (by decide) (by decide) (by decide) (by decide) (by decide) (by decide) (by decide)),
      (h c main_arg2).trans (keepsAll _ (by decide) (by decide) (by decide) (by decide) (by decide) (by decide) (by decide)),
      (h c main_arg3).trans (keepsAll _ (by decide) (by decide) (by decide) (by decide) (by decide) (by decide) (by decide)),
      (h c main_arg4).trans (keepsAll _ (by decide) (by decide) (by decide) (by decide) (by decide) (by decide) (by decide))⟩)
    (run_seq no_scoped_refs no_scoped_sems defs main (fun _ => opsAll) main_eq (fun _ => subsAll) m ρ)

end Cert.Router.Ref

end
-- ==== Proof.RefRows.lean ====
/-
  The reference at ideal values, a token at a time: its logits, its softmax of a row of real logits, the places and the values of
  the greatest entries, and the rows of the first token's cluster.
-/
module

public import proofs.«01_k».proof.Proof.Rows
public import proofs.«01_k».proof.Proof.RefRun
public import Idealize.ShloMosaic.Lib.Pointwise

@[expose] public section

noncomputable section

namespace Cert.Router

open Idealize.ShloMosaic

/-- The sum of the exponentials of a real row less its greatest entry, and the softmax. -/
def expSum (l : Fin 8 → ℝ) : ℝ := ∑ k, Real.exp (l k - l (pick8 fun k => (l k : EReal)))
def smax (l : Fin 8 → ℝ) (k : Fin 8) : ℝ := Real.exp (l k - l (pick8 fun k => (l k : EReal))) / expSum l

theorem expSum_pos (l : Fin 8 → ℝ) : 0 < expSum l := Finset.sum_pos (fun _ _ => Real.exp_pos _) Finset.univ_nonempty

theorem smax_lt (l : Fin 8 → ℝ) (a b : Fin 8) : smax l a < smax l b ↔ l a < l b := by
  unfold smax
  rw [div_lt_div_iff_of_pos_right (expSum_pos l), Real.exp_lt_exp]
  exact sub_lt_sub_iff_right _

theorem top_real (l : Fin 8 → ℝ) : top (fun k => (l k : EReal)) = (l (pick8 fun k => (l k : EReal)) : EReal) := (pick8_top _).symm

theorem coe_sum {ι : Type} (s : Finset ι) (f : ι → ℝ) : ∑ k ∈ s, (f k : EReal) = ((∑ k ∈ s, f k : ℝ) : EReal) := by
  classical
  induction s using Finset.induction_on with
  | empty => simp
  | insert a s h ih => rw [Finset.sum_insert h, Finset.sum_insert h, ih, EReal.coe_add]

theorem exp_real (a b : ℝ) : Ideal.exp ((a : EReal) - (b : EReal)) = (Real.exp (a - b) : EReal) := by
  rw [← EReal.coe_sub]; rfl

theorem div_real (a b : ℝ) (h : 0 < b) : Ideal.div (a : EReal) (b : EReal) = ((a / b : ℝ) : EReal) := by
  unfold Ideal.div
  rw [if_neg (by exact_mod_cast h.ne'), ← EReal.coe_inv, ← EReal.coe_mul, div_eq_mul_inv]

theorem ofBits_bot : Ideal.ofBits FTy.f32 4286578688#32 = ⊥ := by simp [Ideal.ofBits, Ideal.ieee]

namespace Ref

open Cert.ReferenceIdeal Cert.ReferenceIdeal.Gen

theorem logits_at (x : Vec Ideal S32768x4096 .f32) (W : Vec Ideal S8x4096 .f32) (b : Vec Ideal S8 .f32) (t : Fin 32768) (k : Fin 8) :
    logits x W b (ix2 t k) = ∑ d : Fin 4096, x (ix2 t d) * W (ix2 k d) + b (ix1 k) := by
  pointwise [logits]

variable (L : Vec Ideal S32768x8 .f32) (t : Fin 32768) (l : Fin 8 → ℝ)

theorem exps_at (h : ∀ k, L (ix2 t k) = (l k : EReal)) (k : Fin 8) : exps L (ix2 t k) = (Real.exp (l k - l (pick8 fun k => (l k : EReal))) : EReal) := by
  pointwise [exps]
  rw [ofBits_bot]
  simp only [h]
  rw [show Finset.fold max ⊥ (fun k => (l k : EReal)) Finset.univ = _ from top_real l, max_eq_right bot_le, exp_real]
theorem soft_at (h : ∀ k, L (ix2 t k) = (l k : EReal)) (k : Fin 8) : soft L (ix2 t k) = (smax l k : EReal) := by
  pointwise [soft]
  simp only [exps_at L t l h]
  rw [coe_sum]
  exact div_real _ _ (expSum_pos l)

theorem along_ix2 (j k : Fin 8) : (ix2 t j : S32768x8.Idx).along 1 k = ix2 t k := by
  funext a; fin_cases a <;> rfl

theorem gt_eq (a b : EReal) : (FloatOps.cmpfTotal (F := Ideal) (φ := .f32) CmpDirection.gt a b == 1#1) = decide (b < a) := by
  rw [Ideal.cmpfTotal_def]
  show (BitVec.ofBool (decide (b < a)) == 1#1) = decide (b < a)
  by_cases h : b < a <;> simp [h]

variable (P : Vec Ideal S32768x8 .f32) (p : Fin 8 → ℝ)

theorem order_at (h : ∀ k, P (ix2 t k) = (p k : EReal)) (j : Fin 8) :
    (fun a b : Fin 8 => FloatOps.cmpfTotal (F := Ideal) (φ := .f32) CmpDirection.gt (P ((ix2 t j : S32768x8.Idx).along 1 a)) (P ((ix2 t j : S32768x8.Idx).along 1 b)) == 1#1)
      = fun a b => decide (p b < p a) := by
  funext a b
  rw [along_ix2, along_ix2, h, h, gt_eq]
  simp only [EReal.coe_lt_coe_iff]

theorem top2_val (h : ∀ k, P (ix2 t k) = (p k : EReal)) (hm : ∀ a b, p a < p b ↔ l a < l b) (r : Fin 2) :
    (top2 (F := Ideal) P).1 (ix2 t r) = (p (two l r) : EReal) := by
  pointwise [top2, Host.topK, Host.sort2]
  rw [order_at t P p h, along_ix2]
  rw [← h]
  exact congrArg (fun k => P (ix2 t k)) (sorted_two l p hm r)
theorem top2_idx (h : ∀ k, P (ix2 t k) = (p k : EReal)) (hm : ∀ a b, p a < p b ↔ l a < l b) (r : Fin 2) :
    (top2 (F := Ideal) P).2 (ix2 t r) = BitVec.ofNat 32 (two l r).val := by
  pointwise [top2, Host.topK, Host.sort2]
  rw [order_at t P p h, along_ix2]
  exact congrArg (fun k : Fin 8 => BitVec.ofNat 32 k.val) (sorted_two l p hm r)
theorem top1_val (h : ∀ k, P (ix2 t k) = (p k : EReal)) (hm : ∀ a b, p a < p b ↔ l a < l b) :
    (top1 (F := Ideal) P).1 (ix2 t 0) = (p (pick8 fun k => (l k : EReal)) : EReal) := by
  pointwise [top1, Host.topK, Host.sort2]
  rw [order_at t P p h, along_ix2]
  rw [← h]
  exact congrArg (fun k => P (ix2 t k)) (sorted_one l p hm)
theorem top1_idx (h : ∀ k, P (ix2 t k) = (p k : EReal)) (hm : ∀ a b, p a < p b ↔ l a < l b) :
    (top1 (F := Ideal) P).2 (ix2 t 0) = BitVec.ofNat 32 (pick8 fun k => (l k : EReal)).val := by
  pointwise [top1, Host.topK, Host.sort2]
  rw [order_at t P p h, along_ix2]
  exact congrArg (fun k : Fin 8 => BitVec.ofNat 32 k.val) (sorted_one l p hm)

theorem flat_at (v : Vec Ideal S32768x1 .i32) (t : Fin 32768) : flat (F := Ideal) v (ix1 t) = v (ix2 t 0) := by
  pointwise [flat]
theorem first_at (v : Vec Ideal S32768 .i32) (i : S_.Idx) : first (F := Ideal) v i = v (ix1 0) := by
  pointwise [first]

theorem start_at (v : Vec Ideal S_ .i32) (i : S_.Idx) (a : Fin 8) (h : v i = BitVec.ofNat 32 a.val) : (start (F := Ideal) v i).toInt = a.val := by
  have : ∀ a : Fin 8, (Scalar.select (IntOp.cmpi CmpIPredicate.slt (BitVec.ofNat 32 a.val) 0#32) (IntOp.addi (BitVec.ofNat 32 a.val) 8#32) (BitVec.ofNat 32 a.val)).toInt = a.val := by decide
  show (Scalar.select (IntOp.cmpi CmpIPredicate.slt (v i) 0#32) (IntOp.addi (v i) 8#32) (v i)).toInt = _
  rw [h]
  exact this a
theorem zero8_at (i : S_.Idx) : (zero8 (F := Ideal) i).toInt = 0 := by
  show (Scalar.select (IntOp.cmpi CmpIPredicate.slt 0#32 0#32) (IntOp.addi 0#32 8#32) 0#32 : BitVec 32).toInt = 0
  decide
theorem zero4096_at (i : S_.Idx) : (zero4096 (F := Ideal) i).toInt = 0 := by
  show (Scalar.select (IntOp.cmpi CmpIPredicate.slt 0#32 0#32) (IntOp.addi 0#32 4096#32) 0#32 : BitVec 32).toInt = 0
  decide

attribute [local irreducible] start zero8 zero4096

theorem ix3_congr {n k q : ℕ} {α : Type} (f : (⟨3, ![n, k, q]⟩ : Shape).Idx → α) {a a' : Fin n} {b b' : Fin k} {d d' : Fin q}
    (ha : a.val = a'.val) (hb : b.val = b'.val) (hd : d.val = d'.val) : f (ix3 a b d) = f (ix3 a' b' d') := by
  rw [Fin.ext ha, Fin.ext hb, Fin.ext hd]
theorem ix2_congr {n k : ℕ} {α : Type} (f : (⟨2, ![n, k]⟩ : Shape).Idx → α) {a a' : Fin n} {b b' : Fin k}
    (ha : a.val = a'.val) (hb : b.val = b'.val) : f (ix2 a b) = f (ix2 a' b') := by
  rw [Fin.ext ha, Fin.ext hb]

theorem expW_at (W : Vec Ideal S8x8x4096 .f32) (v : Vec Ideal S_ .i32) (a : Fin 8) (h : ∀ i, v i = BitVec.ofNat 32 a.val) (k : Fin 8) (d : Fin 4096) :
    expW (F := Ideal) W v (ix2 k d) = W (ix3 a k d) := by
  pointwise [expW]
  have h0 := start_at v (Shape.Idx.first h_S_) a (h _)
  have h1 := zero8_at (Shape.Idx.first h_S_)
  have h2 := zero4096_at (Shape.Idx.first h_S_)
  generalize hs : (fun k : Fin 3 => BitVec.toInt ((![start v, zero8 (F := Ideal), zero4096 (F := Ideal)] : Fin 3 → Vec Ideal S_ .i32) k (Shape.Idx.first h_S_))) = s
  replace h0 : s 0 = (a.val : ℤ) := by rw [← hs]; exact h0
  replace h1 : s 1 = ((0 : ℕ) : ℤ) := by rw [← hs]; exact h1
  replace h2 : s 2 = ((0 : ℕ) : ℤ) := by rw [← hs]; exact h2
  refine ix3_congr W ?_ ?_ ?_
  · exact Host.clampedStart_of_le (s := S8x8x4096) (t := S1x8x4096) rfl s 0 a.val h0 (by change a.val + S1x8x4096.size 0 ≤ 8; rw [show S1x8x4096.size 0 = 1 from rfl]; omega)
  · refine (congrArg (· + k.val) (Host.clampedStart_of_le (s := S8x8x4096) (t := S1x8x4096) rfl s 1 0 h1 (by show 0 + 8 ≤ 8; omega))).trans ?_
    exact Nat.zero_add _
  · refine (congrArg (· + d.val) (Host.clampedStart_of_le (s := S8x8x4096) (t := S1x8x4096) rfl s 2 0 h2 (by show 0 + 4096 ≤ 4096; omega))).trans ?_
    exact Nat.zero_add _
theorem expB_at (b : Vec Ideal S8x8 .f32) (v : Vec Ideal S_ .i32) (a : Fin 8) (h : ∀ i, v i = BitVec.ofNat 32 a.val) (k : Fin 8) :
    expB (F := Ideal) b v (ix1 k) = b (ix2 a k) := by
  pointwise [expB]
  have h0 := start_at v (Shape.Idx.first h_S_) a (h _)
  have h1 := zero8_at (Shape.Idx.first h_S_)
  generalize hs : (fun k : Fin 2 => BitVec.toInt ((![start v, zero8 (F := Ideal)] : Fin 2 → Vec Ideal S_ .i32) k (Shape.Idx.first h_S_))) = s
  replace h0 : s 0 = (a.val : ℤ) := by rw [← hs]; exact h0
  replace h1 : s 1 = ((0 : ℕ) : ℤ) := by rw [← hs]; exact h1
  refine ix2_congr b ?_ ?_
  · exact Host.clampedStart_of_le (s := S8x8) (t := S1x8) rfl s 0 a.val h0 (by change a.val + S1x8.size 0 ≤ 8; rw [show S1x8.size 0 = 1 from rfl]; omega)
  · refine (congrArg (· + k.val) (Host.clampedStart_of_le (s := S8x8) (t := S1x8) rfl s 1 0 h1 (by show 0 + 8 ≤ 8; omega))).trans ?_
    exact Nat.zero_add _

/-! ## The two results -/

section Results

variable (x : Vec Ideal S32768x4096 .f32) (cW : Vec Ideal S8x4096 .f32) (cb : Vec Ideal S8 .f32) (eW : Vec Ideal S8x8x4096 .f32) (eb : Vec Ideal S8x8 .f32)
variable (lc : Fin 32768 → Fin 8 → ℝ) (hc : ∀ t k, ∑ d : Fin 4096, x (ix2 t d) * cW (ix2 k d) + cb (ix1 k) = (lc t k : EReal))

include hc in
theorem cluster_soft (t : Fin 32768) (k : Fin 8) : soft (logits x cW cb) (ix2 t k) = (smax (lc t) k : EReal) :=
  soft_at _ t (lc t) (fun k => (logits_at x cW cb t k).trans (hc t k)) k
include hc in
theorem cluster_val (t : Fin 32768) : (clusterTop x cW cb).1 (ix2 t 0) = (smax (lc t) (pick8 fun k => (lc t k : EReal)) : EReal) :=
  top1_val t (lc t) _ (smax (lc t)) (cluster_soft x cW cb lc hc t) (smax_lt (lc t))
include hc in
theorem cluster_idx (t : Fin 32768) : (clusterTop x cW cb).2 (ix2 t 0) = BitVec.ofNat 32 (pick8 fun k => (lc t k : EReal)).val :=
  top1_idx t (lc t) _ (smax (lc t)) (cluster_soft x cW cb lc hc t) (smax_lt (lc t))
include hc in
theorem first_idx (i : S_.Idx) : first (F := Ideal) (flat (F := Ideal) (clusterTop x cW cb).2) i = BitVec.ofNat 32 (pick8 fun k => (lc 0 k : EReal)).val := by
  rw [first_at, flat_at, cluster_idx x cW cb lc hc]

variable (le : Fin 32768 → Fin 8 → ℝ) (he : ∀ t k, ∑ d : Fin 4096, x (ix2 t d) * eW (ix3 (pick8 fun k => (lc 0 k : EReal)) k d) + eb (ix2 (pick8 fun k => (lc 0 k : EReal)) k) = (le t k : EReal))

include hc he in
theorem expert_soft (t : Fin 32768) (k : Fin 8) :
    soft (logits x (expW eW (first (F := Ideal) (flat (F := Ideal) (clusterTop x cW cb).2))) (expB eb (first (F := Ideal) (flat (F := Ideal) (clusterTop x cW cb).2)))) (ix2 t k)
      = (smax (le t) k : EReal) := by
  refine soft_at _ t (le t) (fun k => (logits_at _ _ _ t k).trans ?_) k
  rw [← he t k, expB_at _ _ _ (first_idx x cW cb lc hc)]
  refine congrArg (· + _) (Finset.sum_congr rfl fun d _ => ?_)
  rw [expW_at _ _ _ (first_idx x cW cb lc hc)]

include hc he in
theorem idxOut_at (t : Fin 32768) (r : Fin 2) : idxOut (F := Ideal) x cW cb eW eb (ix2 t r)
    = IntOp.addi (IntOp.muli (BitVec.ofNat 32 (pick8 fun k => (lc t k : EReal)).val) 8#32) (BitVec.ofNat 32 (two (le t) r).val) := by
  pointwise [idxOut]
  rw [flat_at, cluster_idx x cW cb lc hc]
  exact congrArg _ (top2_idx t (le t) _ (smax (le t)) (expert_soft x cW cb eW eb lc hc le he t) (smax_lt (le t)) r)
include hc he in
theorem wgtOut_at (t : Fin 32768) (r : Fin 2) : wgtOut (F := Ideal) x cW cb eW eb (ix2 t r)
    = ((smax (le t) (two (le t) r) * smax (lc t) (pick8 fun k => (lc t k : EReal)) : ℝ) : EReal) := by
  pointwise [wgtOut]
  exact (congrArg₂ (fun a b : EReal => a * b) (top2_val t (le t) _ (smax (le t)) (expert_soft x cW cb eW eb lc hc le he t) (smax_lt (le t)) r)
    (cluster_val x cW cb lc hc t)).trans (EReal.coe_mul _ _).symm

end Results

end Ref

end Cert.Router

end
-- ==== Proof.Finite.lean ====
/-
  On finite arguments every logit is a real number, so the kernel's and the reference's choices are the same places and their
  weights the same real numbers: the three claims.
-/
module

public import proofs.«01_k».proof.Proof.Picks
public import proofs.«01_k».proof.Proof.RefRows
public import proofs.«01_k».proof.Defs
public import proofs.«01_k».proof.Proof.Gen.Pre_finite

@[expose] public section

noncomputable section

namespace Cert.Router

open Idealize.ShloMosaic Idealize.ShloMosaic.TcCoe Idealize.SL.Sem
open Cert.KernelIdeal (nD τ sig)

/-! ## The kernel's weights of real logits -/

theorem den_real (l : Fin 8 → ℝ) : den (fun k => (l k : EReal)) = (expSum l : EReal) := by
  unfold den
  rw [top_real]
  simp only [exp_real]
  exact coe_sum _ _

theorem one_div_real (a : ℝ) (h : 0 < a) : Ideal.div 1 (a : EReal) = ((1 / a : ℝ) : EReal) := div_real 1 a h

theorem weight_0 (l q : Fin 8 → ℝ) :
    Ideal.div (Ideal.div 1 (den fun k => (l k : EReal))) (den fun k => (q k : EReal))
      = ((smax q (pick8 fun k => (q k : EReal)) * smax l (pick8 fun k => (l k : EReal)) : ℝ) : EReal) := by
  rw [den_real, den_real, one_div_real _ (expSum_pos l), div_real _ _ (expSum_pos q)]
  refine congrArg _ ?_
  unfold smax
  rw [sub_self, sub_self, Real.exp_zero]
  ring
theorem weight_1 (l q : Fin 8 → ℝ) :
    Ideal.div (Ideal.div 1 (den fun k => (l k : EReal)) * Ideal.exp (top (rest fun k => (q k : EReal)) - top fun k => (q k : EReal))) (den fun k => (q k : EReal))
      = ((smax q (second fun k => (q k : EReal)) * smax l (pick8 fun k => (l k : EReal)) : ℝ) : EReal) := by
  rw [den_real, den_real, one_div_real _ (expSum_pos l), rest_second, top_real, exp_real, ← EReal.coe_mul, div_real _ _ (expSum_pos q)]
  refine congrArg _ ?_
  unfold smax
  rw [sub_self, Real.exp_zero]
  ring

/-! ## Finite arguments -/

theorem real_of_lt {a : EReal} (h : Ideal.cmp .olt (max a (-a)) ⊤ = 1#1) : ∃ r : ℝ, a = (r : EReal) := by
  have h' : max a (-a) < ⊤ := by
    by_contra hn
    have : Ideal.cmp .olt (max a (-a)) ⊤ = BitVec.ofBool (decide (max a (-a) < ⊤)) := rfl
    rw [this, decide_eq_false hn] at h
    exact absurd h (by decide)
  refine ⟨a.toReal, (EReal.coe_toReal ?_ ?_).symm⟩
  · rintro rfl; simp at h'
  · rintro rfl; simp at h'

theorem ofBits_inf : Ideal.ofBits FTy.f32 2139095040#32 = ⊤ := by simp [Ideal.ofBits, Ideal.ieee]

section Pre

variable (m : (ℓ : Loc nD τ sig) → Buf (Elt Ideal) ℓ) (h : Pre_KernelIdeal_finite m) (c : Dev nD)

include h

theorem real_x (t : Fin 32768) (d : Fin 4096) : ∃ r : ℝ, argX m c (ix2 t d) = (r : EReal) := by
  have h0 := congrFun (h c).1 (ix2 t d)
  revert h0
  pointwise [Cert.Pre_finite.fn]
  rw [ofBits_inf]
  exact real_of_lt
theorem real_cw (k : Fin 8) (d : Fin 4096) : ∃ r : ℝ, argCW m c (ix2 k d) = (r : EReal) := by
  have h0 := congrFun (h c).2.1 (ix2 k d)
  revert h0
  pointwise [Cert.Pre_finite.fn]
  rw [ofBits_inf]
  exact real_of_lt
theorem real_cb (k : Fin 8) : ∃ r : ℝ, argCB m c (ix1 k) = (r : EReal) := by
  have h0 := congrFun (h c).2.2.1 (ix1 k)
  revert h0
  pointwise [Cert.Pre_finite.fn]
  rw [ofBits_inf]
  exact real_of_lt
theorem real_ew (a k : Fin 8) (d : Fin 4096) : ∃ r : ℝ, argEW m c (ix3 a k d) = (r : EReal) := by
  have h0 := congrFun (h c).2.2.2.1 (ix3 a k d)
  revert h0
  pointwise [Cert.Pre_finite.fn]
  rw [ofBits_inf]
  exact real_of_lt
theorem real_eb (a k : Fin 8) : ∃ r : ℝ, argEB m c (ix2 a k) = (r : EReal) := by
  have h0 := congrFun (h c).2.2.2.2 (ix2 a k)
  revert h0
  pointwise [Cert.Pre_finite.fn]
  rw [ofBits_inf]
  exact real_of_lt

omit h in
theorem real_dot (f g : Fin 4096 → EReal) (b : EReal) (hf : ∀ d, ∃ r : ℝ, f d = (r : EReal)) (hg : ∀ d, ∃ r : ℝ, g d = (r : EReal))
    (hb : ∃ r : ℝ, b = (r : EReal)) : ∃ r : ℝ, ∑ d, f d * g d + b = (r : EReal) := by
  choose f' hf using hf
  choose g' hg using hg
  obtain ⟨b', rfl⟩ := hb
  refine ⟨∑ d, f' d * g' d + b', ?_⟩
  rw [EReal.coe_add, ← coe_sum]
  refine congrArg (· + _) (Finset.sum_congr rfl fun d _ => ?_)
  rw [hf, hg, EReal.coe_mul]

theorem real_c (t : Fin 32768) (k : Fin 8) : ∃ r : ℝ, cLogit m c t k = (r : EReal) :=
  real_dot _ _ _ (real_cw m h c k) (real_x m h c t) (real_cb m h c k)
theorem real_e (a : Fin 8) (t : Fin 32768) (k : Fin 8) : ∃ r : ℝ, eLogit m c a t k = (r : EReal) :=
  real_dot _ _ _ (real_ew m h c a k) (real_x m h c t) (real_eb m h c a k)

/-- The reference's results of the kernel's arguments are the kernel's. -/
theorem same :
    Ref.idxOut (F := Ideal) (argX m c) (argCW m c) (argCB m c) (argEW m c) (argEB m c) = (fun i => wordAt m c (i 1) (i 0) : Vec Ideal Cert.KernelIdeal.S32768x2 .i32)
    ∧ Ref.wgtOut (F := Ideal) (argX m c) (argCW m c) (argCB m c) (argEW m c) (argEB m c) = (fun i => wgtAt m c (i 1) (i 0) : Vec Ideal Cert.KernelIdeal.S32768x2 .f32) := by
  choose lc hc using real_c m h c
  choose le he using real_e m h c (zeroth m c)
  have ec : ∀ t, cLogit m c t = fun k => (lc t k : EReal) := fun t => funext (hc t)
  have ee : ∀ t, eLogit m c (zeroth m c) t = fun k => (le t k : EReal) := fun t => funext (he t)
  have hz : zeroth m c = pick8 fun k => (lc 0 k : EReal) := by unfold zeroth; rw [ec]
  have rc : ∀ t k, ∑ d : Fin 4096, argX m c (ix2 t d) * argCW m c (ix2 k d) + argCB m c (ix1 k) = (lc t k : EReal) := by
    intro t k
    rw [← hc]
    exact congrArg (· + _) (Finset.sum_congr rfl fun d _ => mul_comm _ _)
  have re : ∀ t k, ∑ d : Fin 4096, argX m c (ix2 t d) * argEW m c (ix3 (pick8 fun k => (lc 0 k : EReal)) k d) + argEB m c (ix2 (pick8 fun k => (lc 0 k : EReal)) k) = (le t k : EReal) := by
    intro t k
    rw [← he, ← hz]
    exact congrArg (· + _) (Finset.sum_congr rfl fun d _ => mul_comm _ _)
  refine ⟨funext fun i => ?_, funext fun i => ?_⟩
  · obtain ⟨t, r, rfl⟩ := ix2_eta (n := 32768) (k := 2) i
    rw [Ref.idxOut_at _ _ _ _ _ lc rc le re]
    show _ = wordAt m c r t
    unfold wordAt
    rw [ec, ee]
    rfl
  · obtain ⟨t, r, rfl⟩ := ix2_eta (n := 32768) (k := 2) i
    rw [Ref.wgtOut_at _ _ _ _ _ lc rc le re]
    show _ = wgtAt m c r t
    unfold wgtAt
    rw [ec, ee, weight_0, weight_1]
    fin_cases r <;> rfl

end Pre

/-! ## The claims -/

theorem claim_frame_kernel : quiescent_KernelIdeal := fun m g _ => frame m g (hk m)
theorem claim_frame_kernel_finite : quiescent_KernelIdeal_pre_finite := fun m g _ => frame m g (hk m)

theorem reference_frame (m : (ℓ : Loc Cert.ReferenceIdeal.nD Cert.ReferenceIdeal.τ Cert.ReferenceIdeal.sig) → Buf (Elt Ideal) ℓ) (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0) :=
  (θ_run _ _ _).mono (fun r h => ⟨fun c => (h c).2.2, Idealize.ShloMosaic.sem_eq_zero_of_no_sems (by decide) r.2⟩) (Ref.run m g)
theorem claim_frame_reference : quiescent_ReferenceIdeal := fun m g _ => reference_frame m g
theorem claim_frame_reference_finite : quiescent_ReferenceIdeal_pre_finite := fun m g _ => reference_frame m g

theorem claim_algebraic : algebraic_KernelIdeal_ReferenceIdeal_pre_finite := fun m g m' g' hpre ha =>
  ⟨fun c => (fun i => wordAt m c (i 1) (i 0) : Vec Ideal Cert.KernelIdeal.S32768x2 .i32), fun c => (fun i => wgtAt m c (i 1) (i 0) : Vec Ideal Cert.KernelIdeal.S32768x2 .f32),
    kernel_run m g,
    (θ_run _ _ _).mono (fun r h c => by
      obtain ⟨h0, h1, hr⟩ := h c
      obtain ⟨a0, a1, a2, a3, a4⟩ := ha c
      rw [a0, a1, a2, a3, a4] at h0 h1
      exact ⟨h0.trans (same m hpre c).1, h1.trans (same m hpre c).2, hr⟩) (Ref.run m' g')⟩

end Cert.Router

end
-- ==== Proof.lean ====
module

public import proofs.«01_k».proof.Proof.Finite

@[expose] public section

noncomputable section

namespace Cert.Proof

theorem claim : Cert.Claim :=
  ⟨Cert.KernelIdeal.Gen.facts, Cert.ReferenceIdeal.Gen.facts, Cert.Pre_finite.Gen.facts, Cert.Router.claim_frame_kernel,
    Cert.Router.claim_frame_kernel_finite, Cert.Router.claim_frame_reference, Cert.Router.claim_frame_reference_finite,
    Cert.Router.claim_algebraic⟩

end Cert.Proof

end
